-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2x4096x512 : Shape := ⟨3, ![2, 4096, 512]⟩
abbrev S2x7x4 : Shape := ⟨3, ![2, 7, 4]⟩
abbrev S2x4 : Shape := ⟨2, ![2, 4]⟩
abbrev S_ : Shape := ⟨0, ![]⟩
abbrev S1024x512 : Shape := ⟨2, ![1024, 512]⟩
abbrev S512x512 : Shape := ⟨2, ![512, 512]⟩
abbrev S1x1024x512 : Shape := ⟨3, ![1, 1024, 512]⟩
abbrev S1x1x1 : Shape := ⟨3, ![1, 1, 1]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S4096x8192, .f32⟩
  | .local _ .vmem, ⟨0, _⟩ => ⟨S4096x512, .f32⟩
  | .local _ .vmem, ⟨1, _⟩ => ⟨S512x8192, .f32⟩
  | .local _ .vmem, ⟨2, _⟩ => ⟨S2x4096x512, .f32⟩
  | .local _ .vmem, ⟨3, _⟩ => ⟨S2x4096x512, .f32⟩
  | _, _ => ⟨S4096x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 234 → Bool
  | ⟨i, _⟩ => dmaSemScopedAt i

abbrev sig : RefSig :=
  (ofTc nBuf bufTy 9 234 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let c0_12 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v15 : BitVec 32 := Scalar.muli v2 c1024_i32
  let v16 : BitVec 32 := Scalar.addi v15 c0_i32_11
  let v17 : Index := Scalar.indexCast v16
  ![0, v17.toNat]
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_31 : BitVec 32 := 1#32
  let v35 : BitVec 32 := Scalar.muli v7 c1_i32_31
  let v36 : BitVec 32 := Scalar.addi c0_i32_32 v35
  v36.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_45 : BitVec 32 := 1#32
  let v45 : BitVec 32 := Scalar.muli v5 c1_i32_45
  let v46 : BitVec 32 := Scalar.addi c0_i32_46 v45
  v46.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_76 : BitVec 32 := 1#32
  let v77 : BitVec 32 := Scalar.muli v7 c1_i32_76
  let v78 : BitVec 32 := Scalar.addi c0_i32_77 v77
  v78.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_90 : BitVec 32 := 1#32
  let v87 : BitVec 32 := Scalar.muli v5 c1_i32_90
  let v88 : BitVec 32 := Scalar.addi c0_i32_91 v87
  v88.toNat
def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_121 : BitVec 32 := 1#32
  let v119 : BitVec 32 := Scalar.muli v7 c1_i32_121
  let v120 : BitVec 32 := Scalar.addi c0_i32_122 v119
  v120.toNat
def k0_dev8 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_134 : BitVec 32 := 1#32
  let v129 : BitVec 32 := Scalar.muli v5 c1_i32_134
  let v130 : BitVec 32 := Scalar.addi c0_i32_135 v129
  v130.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_164 : BitVec 32 := 1#32
  let v161 : BitVec 32 := Scalar.muli v7 c1_i32_164
  let v162 : BitVec 32 := Scalar.addi c0_i32_165 v161
  v162.toNat
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_177 : BitVec 32 := 1#32
  let v171 : BitVec 32 := Scalar.muli v5 c1_i32_177
  let v172 : BitVec 32 := Scalar.addi c0_i32_178 v171
  v172.toNat
def k0_off2 (d0 : Dev nD) (c0_i32_213 : BitVec 32) : Fin 2 → Nat :=
  let c0_221 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v197 : BitVec 32 := Scalar.subi v2 c0_i32_213
  let c1_i32_214 : BitVec 32 := 1#32
  let v198 : BitVec 32 := Scalar.subi v197 c1_i32_214
  let c8_i32_215 : BitVec 32 := 8#32
  let v199 : BitVec 32 := Scalar.addi v198 c8_i32_215
  let c8_i32_216 : BitVec 32 := 8#32
  let v200 : BitVec 32 := Scalar.remsi v199 c8_i32_216
  let c1024_i32_219 : BitVec 32 := 1024#32
  let v203 : BitVec 32 := Scalar.muli v200 c1024_i32_219
  let c0_i32_220 : BitVec 32 := 0#32
  let v204 : BitVec 32 := Scalar.addi v203 c0_i32_220
  let v205 : Index := Scalar.indexCast v204
  ![0, v205.toNat]
def k0_dev11 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_229 : BitVec 32 := 1#32
  let v215 : BitVec 32 := Scalar.muli v5 c1_i32_229
  let v216 : BitVec 32 := Scalar.addi c0_i32_230 v215
  v216.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_243 : BitVec 32 := 1#32
  let v219 : BitVec 32 := Scalar.muli v7 c1_i32_243
  let v220 : BitVec 32 := Scalar.addi c0_i32_244 v219
  v220.toNat
def k0_off3 (d0 : Dev nD) (c0_i32_279 : BitVec 32) : Fin 2 → Nat :=
  let c0_286 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : BitVec 32 := Scalar.addi v2 c0_i32_279
  let c1_i32_280 : BitVec 32 := 1#32
  let v246 : BitVec 32 := Scalar.addi v245 c1_i32_280
  let c8_i32_281 : BitVec 32 := 8#32
  let v247 : BitVec 32 := Scalar.remsi v246 c8_i32_281
  let c1024_i32_284 : BitVec 32 := 1024#32
  let v250 : BitVec 32 := Scalar.muli v247 c1024_i32_284
  let c512_i32_285 : BitVec 32 := 512#32
  let v251 : BitVec 32 := Scalar.addi v250 c512_i32_285
  let v252 : Index := Scalar.indexCast v251
  ![0, v252.toNat]
def k0_dev13 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_294 : BitVec 32 := 1#32
  let v262 : BitVec 32 := Scalar.muli v7 c1_i32_294
  let v263 : BitVec 32 := Scalar.addi c0_i32_295 v262
  v263.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_308 : BitVec 32 := 1#32
  let v266 : BitVec 32 := Scalar.muli v5 c1_i32_308
  let v267 : BitVec 32 := Scalar.addi c0_i32_309 v266
  v267.toNat
def k0_dev15 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_360 : BitVec 32 := 1#32
  let v310 : BitVec 32 := Scalar.muli v5 c1_i32_360
  let v311 : BitVec 32 := Scalar.addi c0_i32_361 v310
  v311.toNat
def k0_dev16 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_374 : BitVec 32 := 1#32
  let v314 : BitVec 32 := Scalar.muli v7 c1_i32_374
  let v315 : BitVec 32 := Scalar.addi c0_i32_375 v314
  v315.toNat
def k0_dev17 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_425 : BitVec 32 := 1#32
  let v357 : BitVec 32 := Scalar.muli v7 c1_i32_425
  let v358 : BitVec 32 := Scalar.addi c0_i32_426 v357
  v358.toNat
def k0_dev18 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_439 : BitVec 32 := 1#32
  let v361 : BitVec 32 := Scalar.muli v5 c1_i32_439
  let v362 : BitVec 32 := Scalar.addi c0_i32_440 v361
  v362.toNat
def k0_dev19 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_491 : BitVec 32 := 1#32
  let v405 : BitVec 32 := Scalar.muli v5 c1_i32_491
  let v406 : BitVec 32 := Scalar.addi c0_i32_492 v405
  v406.toNat
def k0_dev20 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_505 : BitVec 32 := 1#32
  let v409 : BitVec 32 := Scalar.muli v7 c1_i32_505
  let v410 : BitVec 32 := Scalar.addi c0_i32_506 v409
  v410.toNat
def k0_dev21 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_556 : BitVec 32 := 1#32
  let v452 : BitVec 32 := Scalar.muli v7 c1_i32_556
  let v453 : BitVec 32 := Scalar.addi c0_i32_557 v452
  v453.toNat
def k0_dev22 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_570 : BitVec 32 := 1#32
  let v456 : BitVec 32 := Scalar.muli v5 c1_i32_570
  let v457 : BitVec 32 := Scalar.addi c0_i32_571 v456
  v457.toNat
def k0_dev23 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_622 : BitVec 32 := 1#32
  let v500 : BitVec 32 := Scalar.muli v5 c1_i32_622
  let v501 : BitVec 32 := Scalar.addi c0_i32_623 v500
  v501.toNat
def k0_dev24 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_636 : BitVec 32 := 1#32
  let v504 : BitVec 32 := Scalar.muli v7 c1_i32_636
  let v505 : BitVec 32 := Scalar.addi c0_i32_637 v504
  v505.toNat
def k0_dev25 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_687 : BitVec 32 := 1#32
  let v547 : BitVec 32 := Scalar.muli v7 c1_i32_687
  let v548 : BitVec 32 := Scalar.addi c0_i32_688 v547
  v548.toNat
def k0_dev26 (d0 : Dev nD) : Nat :=
  let c0_i32_702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_701 : BitVec 32 := 1#32
  let v551 : BitVec 32 := Scalar.muli v5 c1_i32_701
  let v552 : BitVec 32 := Scalar.addi c0_i32_702 v551
  v552.toNat
def k0_dev27 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_753 : BitVec 32 := 1#32
  let v595 : BitVec 32 := Scalar.muli v5 c1_i32_753
  let v596 : BitVec 32 := Scalar.addi c0_i32_754 v595
  v596.toNat
def k0_dev28 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_767 : BitVec 32 := 1#32
  let v599 : BitVec 32 := Scalar.muli v7 c1_i32_767
  let v600 : BitVec 32 := Scalar.addi c0_i32_768 v599
  v600.toNat
def k0_dev29 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_818 : BitVec 32 := 1#32
  let v642 : BitVec 32 := Scalar.muli v7 c1_i32_818
  let v643 : BitVec 32 := Scalar.addi c0_i32_819 v642
  v643.toNat
def k0_dev30 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_832 : BitVec 32 := 1#32
  let v646 : BitVec 32 := Scalar.muli v5 c1_i32_832
  let v647 : BitVec 32 := Scalar.addi c0_i32_833 v646
  v647.toNat
def k0_dev31 (d0 : Dev nD) : Nat :=
  let c0_i32_885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_884 : BitVec 32 := 1#32
  let v690 : BitVec 32 := Scalar.muli v5 c1_i32_884
  let v691 : BitVec 32 := Scalar.addi c0_i32_885 v690
  v691.toNat
def k0_dev32 (d0 : Dev nD) : Nat :=
  let c0_i32_899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_898 : BitVec 32 := 1#32
  let v694 : BitVec 32 := Scalar.muli v7 c1_i32_898
  let v695 : BitVec 32 := Scalar.addi c0_i32_899 v694
  v695.toNat
def k0_dev33 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_949 : BitVec 32 := 1#32
  let v737 : BitVec 32 := Scalar.muli v7 c1_i32_949
  let v738 : BitVec 32 := Scalar.addi c0_i32_950 v737
  v738.toNat
def k0_dev34 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_963 : BitVec 32 := 1#32
  let v741 : BitVec 32 := Scalar.muli v5 c1_i32_963
  let v742 : BitVec 32 := Scalar.addi c0_i32_964 v741
  v742.toNat
def k0_dev35 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1015 : BitVec 32 := 1#32
  let v785 : BitVec 32 := Scalar.muli v5 c1_i32_1015
  let v786 : BitVec 32 := Scalar.addi c0_i32_1016 v785
  v786.toNat
def k0_dev36 (d0 : Dev nD) : Nat :=
  let c0_i32_1030 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1029 : BitVec 32 := 1#32
  let v789 : BitVec 32 := Scalar.muli v7 c1_i32_1029
  let v790 : BitVec 32 := Scalar.addi c0_i32_1030 v789
  v790.toNat
def k0_dev37 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1080 : BitVec 32 := 1#32
  let v832 : BitVec 32 := Scalar.muli v7 c1_i32_1080
  let v833 : BitVec 32 := Scalar.addi c0_i32_1081 v832
  v833.toNat
def k0_dev38 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1094 : BitVec 32 := 1#32
  let v836 : BitVec 32 := Scalar.muli v5 c1_i32_1094
  let v837 : BitVec 32 := Scalar.addi c0_i32_1095 v836
  v837.toNat
def k0_dev39 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1146 : BitVec 32 := 1#32
  let v880 : BitVec 32 := Scalar.muli v5 c1_i32_1146
  let v881 : BitVec 32 := Scalar.addi c0_i32_1147 v880
  v881.toNat
def k0_dev40 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1160 : BitVec 32 := 1#32
  let v884 : BitVec 32 := Scalar.muli v7 c1_i32_1160
  let v885 : BitVec 32 := Scalar.addi c0_i32_1161 v884
  v885.toNat
def k0_dev41 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1211 : BitVec 32 := 1#32
  let v927 : BitVec 32 := Scalar.muli v7 c1_i32_1211
  let v928 : BitVec 32 := Scalar.addi c0_i32_1212 v927
  v928.toNat
def k0_dev42 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1225 : BitVec 32 := 1#32
  let v931 : BitVec 32 := Scalar.muli v5 c1_i32_1225
  let v932 : BitVec 32 := Scalar.addi c0_i32_1226 v931
  v932.toNat
def k0_dev43 (d0 : Dev nD) : Nat :=
  let c0_i32_1278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1277 : BitVec 32 := 1#32
  let v975 : BitVec 32 := Scalar.muli v5 c1_i32_1277
  let v976 : BitVec 32 := Scalar.addi c0_i32_1278 v975
  v976.toNat
def k0_dev44 (d0 : Dev nD) : Nat :=
  let c0_i32_1292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1291 : BitVec 32 := 1#32
  let v979 : BitVec 32 := Scalar.muli v7 c1_i32_1291
  let v980 : BitVec 32 := Scalar.addi c0_i32_1292 v979
  v980.toNat
def k0_dev45 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1342 : BitVec 32 := 1#32
  let v1022 : BitVec 32 := Scalar.muli v7 c1_i32_1342
  let v1023 : BitVec 32 := Scalar.addi c0_i32_1343 v1022
  v1023.toNat
def k0_dev46 (d0 : Dev nD) : Nat :=
  let c0_i32_1357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1356 : BitVec 32 := 1#32
  let v1026 : BitVec 32 := Scalar.muli v5 c1_i32_1356
  let v1027 : BitVec 32 := Scalar.addi c0_i32_1357 v1026
  v1027.toNat
def k0_dev47 (d0 : Dev nD) : Nat :=
  let c0_i32_1409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1408 : BitVec 32 := 1#32
  let v1070 : BitVec 32 := Scalar.muli v5 c1_i32_1408
  let v1071 : BitVec 32 := Scalar.addi c0_i32_1409 v1070
  v1071.toNat
def k0_dev48 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1422 : BitVec 32 := 1#32
  let v1074 : BitVec 32 := Scalar.muli v7 c1_i32_1422
  let v1075 : BitVec 32 := Scalar.addi c0_i32_1423 v1074
  v1075.toNat
def k0_dev49 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1473 : BitVec 32 := 1#32
  let v1117 : BitVec 32 := Scalar.muli v7 c1_i32_1473
  let v1118 : BitVec 32 := Scalar.addi c0_i32_1474 v1117
  v1118.toNat
def k0_dev50 (d0 : Dev nD) : Nat :=
  let c0_i32_1488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1487 : BitVec 32 := 1#32
  let v1121 : BitVec 32 := Scalar.muli v5 c1_i32_1487
  let v1122 : BitVec 32 := Scalar.addi c0_i32_1488 v1121
  v1122.toNat
def k0_dev51 (d0 : Dev nD) : Nat :=
  let c0_i32_1540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1539 : BitVec 32 := 1#32
  let v1165 : BitVec 32 := Scalar.muli v5 c1_i32_1539
  let v1166 : BitVec 32 := Scalar.addi c0_i32_1540 v1165
  v1166.toNat
def k0_dev52 (d0 : Dev nD) : Nat :=
  let c0_i32_1554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1553 : BitVec 32 := 1#32
  let v1169 : BitVec 32 := Scalar.muli v7 c1_i32_1553
  let v1170 : BitVec 32 := Scalar.addi c0_i32_1554 v1169
  v1170.toNat
def k0_dev53 (d0 : Dev nD) : Nat :=
  let c0_i32_1605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1604 : BitVec 32 := 1#32
  let v1212 : BitVec 32 := Scalar.muli v7 c1_i32_1604
  let v1213 : BitVec 32 := Scalar.addi c0_i32_1605 v1212
  v1213.toNat
def k0_dev54 (d0 : Dev nD) : Nat :=
  let c0_i32_1619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1618 : BitVec 32 := 1#32
  let v1216 : BitVec 32 := Scalar.muli v5 c1_i32_1618
  let v1217 : BitVec 32 := Scalar.addi c0_i32_1619 v1216
  v1217.toNat
def k0_dev55 (d0 : Dev nD) : Nat :=
  let c0_i32_1671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1670 : BitVec 32 := 1#32
  let v1260 : BitVec 32 := Scalar.muli v5 c1_i32_1670
  let v1261 : BitVec 32 := Scalar.addi c0_i32_1671 v1260
  v1261.toNat
def k0_dev56 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1684 : BitVec 32 := 1#32
  let v1264 : BitVec 32 := Scalar.muli v7 c1_i32_1684
  let v1265 : BitVec 32 := Scalar.addi c0_i32_1685 v1264
  v1265.toNat
def k0_dev57 (d0 : Dev nD) : Nat :=
  let c0_i32_1736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1735 : BitVec 32 := 1#32
  let v1307 : BitVec 32 := Scalar.muli v7 c1_i32_1735
  let v1308 : BitVec 32 := Scalar.addi c0_i32_1736 v1307
  v1308.toNat
def k0_dev58 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1749 : BitVec 32 := 1#32
  let v1311 : BitVec 32 := Scalar.muli v5 c1_i32_1749
  let v1312 : BitVec 32 := Scalar.addi c0_i32_1750 v1311
  v1312.toNat
def k0_dev59 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1801 : BitVec 32 := 1#32
  let v1355 : BitVec 32 := Scalar.muli v5 c1_i32_1801
  let v1356 : BitVec 32 := Scalar.addi c0_i32_1802 v1355
  v1356.toNat
def k0_dev60 (d0 : Dev nD) : Nat :=
  let c0_i32_1815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1814 : BitVec 32 := 1#32
  let v1359 : BitVec 32 := Scalar.muli v7 c1_i32_1814
  let v1360 : BitVec 32 := Scalar.addi c0_i32_1815 v1359
  v1360.toNat
def k0_dev61 (d0 : Dev nD) : Nat :=
  let c0_i32_1866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1865 : BitVec 32 := 1#32
  let v1402 : BitVec 32 := Scalar.muli v7 c1_i32_1865
  let v1403 : BitVec 32 := Scalar.addi c0_i32_1866 v1402
  v1403.toNat
def k0_dev62 (d0 : Dev nD) : Nat :=
  let c0_i32_1880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1879 : BitVec 32 := 1#32
  let v1406 : BitVec 32 := Scalar.muli v5 c1_i32_1879
  let v1407 : BitVec 32 := Scalar.addi c0_i32_1880 v1406
  v1407.toNat
def k0_dev63 (d0 : Dev nD) : Nat :=
  let c0_i32_1932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1931 : BitVec 32 := 1#32
  let v1450 : BitVec 32 := Scalar.muli v5 c1_i32_1931
  let v1451 : BitVec 32 := Scalar.addi c0_i32_1932 v1450
  v1451.toNat
def k0_dev64 (d0 : Dev nD) : Nat :=
  let c0_i32_1946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1945 : BitVec 32 := 1#32
  let v1454 : BitVec 32 := Scalar.muli v7 c1_i32_1945
  let v1455 : BitVec 32 := Scalar.addi c0_i32_1946 v1454
  v1455.toNat
def k0_dev65 (d0 : Dev nD) : Nat :=
  let c0_i32_1997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1996 : BitVec 32 := 1#32
  let v1497 : BitVec 32 := Scalar.muli v7 c1_i32_1996
  let v1498 : BitVec 32 := Scalar.addi c0_i32_1997 v1497
  v1498.toNat
def k0_dev66 (d0 : Dev nD) : Nat :=
  let c0_i32_2011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2010 : BitVec 32 := 1#32
  let v1501 : BitVec 32 := Scalar.muli v5 c1_i32_2010
  let v1502 : BitVec 32 := Scalar.addi c0_i32_2011 v1501
  v1502.toNat
def k0_dev67 (d0 : Dev nD) : Nat :=
  let c0_i32_2063 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2062 : BitVec 32 := 1#32
  let v1545 : BitVec 32 := Scalar.muli v5 c1_i32_2062
  let v1546 : BitVec 32 := Scalar.addi c0_i32_2063 v1545
  v1546.toNat
def k0_dev68 (d0 : Dev nD) : Nat :=
  let c0_i32_2077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2076 : BitVec 32 := 1#32
  let v1549 : BitVec 32 := Scalar.muli v7 c1_i32_2076
  let v1550 : BitVec 32 := Scalar.addi c0_i32_2077 v1549
  v1550.toNat
def k0_dev69 (d0 : Dev nD) : Nat :=
  let c0_i32_2128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2127 : BitVec 32 := 1#32
  let v1592 : BitVec 32 := Scalar.muli v7 c1_i32_2127
  let v1593 : BitVec 32 := Scalar.addi c0_i32_2128 v1592
  v1593.toNat
def k0_dev70 (d0 : Dev nD) : Nat :=
  let c0_i32_2142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2141 : BitVec 32 := 1#32
  let v1596 : BitVec 32 := Scalar.muli v5 c1_i32_2141
  let v1597 : BitVec 32 := Scalar.addi c0_i32_2142 v1596
  v1597.toNat
def k0_dev71 (d0 : Dev nD) : Nat :=
  let c0_i32_2194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2193 : BitVec 32 := 1#32
  let v1640 : BitVec 32 := Scalar.muli v5 c1_i32_2193
  let v1641 : BitVec 32 := Scalar.addi c0_i32_2194 v1640
  v1641.toNat
def k0_dev72 (d0 : Dev nD) : Nat :=
  let c0_i32_2208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2207 : BitVec 32 := 1#32
  let v1644 : BitVec 32 := Scalar.muli v7 c1_i32_2207
  let v1645 : BitVec 32 := Scalar.addi c0_i32_2208 v1644
  v1645.toNat
def k0_dev73 (d0 : Dev nD) : Nat :=
  let c0_i32_2259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2258 : BitVec 32 := 1#32
  let v1687 : BitVec 32 := Scalar.muli v7 c1_i32_2258
  let v1688 : BitVec 32 := Scalar.addi c0_i32_2259 v1687
  v1688.toNat
def k0_dev74 (d0 : Dev nD) : Nat :=
  let c0_i32_2273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2272 : BitVec 32 := 1#32
  let v1691 : BitVec 32 := Scalar.muli v5 c1_i32_2272
  let v1692 : BitVec 32 := Scalar.addi c0_i32_2273 v1691
  v1692.toNat
def k0_dev75 (d0 : Dev nD) : Nat :=
  let c0_i32_2325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2324 : BitVec 32 := 1#32
  let v1735 : BitVec 32 := Scalar.muli v5 c1_i32_2324
  let v1736 : BitVec 32 := Scalar.addi c0_i32_2325 v1735
  v1736.toNat
def k0_dev76 (d0 : Dev nD) : Nat :=
  let c0_i32_2338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2337 : BitVec 32 := 1#32
  let v1739 : BitVec 32 := Scalar.muli v7 c1_i32_2337
  let v1740 : BitVec 32 := Scalar.addi c0_i32_2338 v1739
  v1740.toNat
def k0_dev77 (d0 : Dev nD) : Nat :=
  let c0_i32_2389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2388 : BitVec 32 := 1#32
  let v1782 : BitVec 32 := Scalar.muli v7 c1_i32_2388
  let v1783 : BitVec 32 := Scalar.addi c0_i32_2389 v1782
  v1783.toNat
def k0_dev78 (d0 : Dev nD) : Nat :=
  let c0_i32_2403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2402 : BitVec 32 := 1#32
  let v1786 : BitVec 32 := Scalar.muli v5 c1_i32_2402
  let v1787 : BitVec 32 := Scalar.addi c0_i32_2403 v1786
  v1787.toNat
def k0_dev79 (d0 : Dev nD) : Nat :=
  let c0_i32_2455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2454 : BitVec 32 := 1#32
  let v1830 : BitVec 32 := Scalar.muli v5 c1_i32_2454
  let v1831 : BitVec 32 := Scalar.addi c0_i32_2455 v1830
  v1831.toNat
def k0_dev80 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2468 : BitVec 32 := 1#32
  let v1834 : BitVec 32 := Scalar.muli v7 c1_i32_2468
  let v1835 : BitVec 32 := Scalar.addi c0_i32_2469 v1834
  v1835.toNat
def k0_dev81 (d0 : Dev nD) : Nat :=
  let c0_i32_2520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2519 : BitVec 32 := 1#32
  let v1877 : BitVec 32 := Scalar.muli v7 c1_i32_2519
  let v1878 : BitVec 32 := Scalar.addi c0_i32_2520 v1877
  v1878.toNat
def k0_dev82 (d0 : Dev nD) : Nat :=
  let c0_i32_2534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2533 : BitVec 32 := 1#32
  let v1881 : BitVec 32 := Scalar.muli v5 c1_i32_2533
  let v1882 : BitVec 32 := Scalar.addi c0_i32_2534 v1881
  v1882.toNat
def k0_dev83 (d0 : Dev nD) : Nat :=
  let c0_i32_2586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2585 : BitVec 32 := 1#32
  let v1925 : BitVec 32 := Scalar.muli v5 c1_i32_2585
  let v1926 : BitVec 32 := Scalar.addi c0_i32_2586 v1925
  v1926.toNat
def k0_dev84 (d0 : Dev nD) : Nat :=
  let c0_i32_2600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2599 : BitVec 32 := 1#32
  let v1929 : BitVec 32 := Scalar.muli v7 c1_i32_2599
  let v1930 : BitVec 32 := Scalar.addi c0_i32_2600 v1929
  v1930.toNat
def k0_dev85 (d0 : Dev nD) : Nat :=
  let c0_i32_2651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2650 : BitVec 32 := 1#32
  let v1972 : BitVec 32 := Scalar.muli v7 c1_i32_2650
  let v1973 : BitVec 32 := Scalar.addi c0_i32_2651 v1972
  v1973.toNat
def k0_dev86 (d0 : Dev nD) : Nat :=
  let c0_i32_2665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2664 : BitVec 32 := 1#32
  let v1976 : BitVec 32 := Scalar.muli v5 c1_i32_2664
  let v1977 : BitVec 32 := Scalar.addi c0_i32_2665 v1976
  v1977.toNat
def k0_dev87 (d0 : Dev nD) : Nat :=
  let c0_i32_2717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2716 : BitVec 32 := 1#32
  let v2020 : BitVec 32 := Scalar.muli v5 c1_i32_2716
  let v2021 : BitVec 32 := Scalar.addi c0_i32_2717 v2020
  v2021.toNat
def k0_dev88 (d0 : Dev nD) : Nat :=
  let c0_i32_2731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2730 : BitVec 32 := 1#32
  let v2024 : BitVec 32 := Scalar.muli v7 c1_i32_2730
  let v2025 : BitVec 32 := Scalar.addi c0_i32_2731 v2024
  v2025.toNat
def k0_dev89 (d0 : Dev nD) : Nat :=
  let c0_i32_2782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2781 : BitVec 32 := 1#32
  let v2067 : BitVec 32 := Scalar.muli v7 c1_i32_2781
  let v2068 : BitVec 32 := Scalar.addi c0_i32_2782 v2067
  v2068.toNat
def k0_dev90 (d0 : Dev nD) : Nat :=
  let c0_i32_2796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2795 : BitVec 32 := 1#32
  let v2071 : BitVec 32 := Scalar.muli v5 c1_i32_2795
  let v2072 : BitVec 32 := Scalar.addi c0_i32_2796 v2071
  v2072.toNat
def k0_dev91 (d0 : Dev nD) : Nat :=
  let c0_i32_2848 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2847 : BitVec 32 := 1#32
  let v2115 : BitVec 32 := Scalar.muli v5 c1_i32_2847
  let v2116 : BitVec 32 := Scalar.addi c0_i32_2848 v2115
  v2116.toNat
def k0_dev92 (d0 : Dev nD) : Nat :=
  let c0_i32_2861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2860 : BitVec 32 := 1#32
  let v2119 : BitVec 32 := Scalar.muli v7 c1_i32_2860
  let v2120 : BitVec 32 := Scalar.addi c0_i32_2861 v2119
  v2120.toNat
def k0_dev93 (d0 : Dev nD) : Nat :=
  let c0_i32_2912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2911 : BitVec 32 := 1#32
  let v2162 : BitVec 32 := Scalar.muli v7 c1_i32_2911
  let v2163 : BitVec 32 := Scalar.addi c0_i32_2912 v2162
  v2163.toNat
def k0_dev94 (d0 : Dev nD) : Nat :=
  let c0_i32_2926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2925 : BitVec 32 := 1#32
  let v2166 : BitVec 32 := Scalar.muli v5 c1_i32_2925
  let v2167 : BitVec 32 := Scalar.addi c0_i32_2926 v2166
  v2167.toNat
def k0_dev95 (d0 : Dev nD) : Nat :=
  let c0_i32_2978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2977 : BitVec 32 := 1#32
  let v2210 : BitVec 32 := Scalar.muli v5 c1_i32_2977
  let v2211 : BitVec 32 := Scalar.addi c0_i32_2978 v2210
  v2211.toNat
def k0_dev96 (d0 : Dev nD) : Nat :=
  let c0_i32_2992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2991 : BitVec 32 := 1#32
  let v2214 : BitVec 32 := Scalar.muli v7 c1_i32_2991
  let v2215 : BitVec 32 := Scalar.addi c0_i32_2992 v2214
  v2215.toNat
def k0_dev97 (d0 : Dev nD) : Nat :=
  let c0_i32_3043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3042 : BitVec 32 := 1#32
  let v2257 : BitVec 32 := Scalar.muli v7 c1_i32_3042
  let v2258 : BitVec 32 := Scalar.addi c0_i32_3043 v2257
  v2258.toNat
def k0_dev98 (d0 : Dev nD) : Nat :=
  let c0_i32_3057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3056 : BitVec 32 := 1#32
  let v2261 : BitVec 32 := Scalar.muli v5 c1_i32_3056
  let v2262 : BitVec 32 := Scalar.addi c0_i32_3057 v2261
  v2262.toNat
def k0_dev99 (d0 : Dev nD) : Nat :=
  let c0_i32_3109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3108 : BitVec 32 := 1#32
  let v2305 : BitVec 32 := Scalar.muli v5 c1_i32_3108
  let v2306 : BitVec 32 := Scalar.addi c0_i32_3109 v2305
  v2306.toNat
def k0_dev100 (d0 : Dev nD) : Nat :=
  let c0_i32_3123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3122 : BitVec 32 := 1#32
  let v2309 : BitVec 32 := Scalar.muli v7 c1_i32_3122
  let v2310 : BitVec 32 := Scalar.addi c0_i32_3123 v2309
  v2310.toNat
def k0_dev101 (d0 : Dev nD) : Nat :=
  let c0_i32_3174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3173 : BitVec 32 := 1#32
  let v2352 : BitVec 32 := Scalar.muli v7 c1_i32_3173
  let v2353 : BitVec 32 := Scalar.addi c0_i32_3174 v2352
  v2353.toNat
def k0_dev102 (d0 : Dev nD) : Nat :=
  let c0_i32_3188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3187 : BitVec 32 := 1#32
  let v2356 : BitVec 32 := Scalar.muli v5 c1_i32_3187
  let v2357 : BitVec 32 := Scalar.addi c0_i32_3188 v2356
  v2357.toNat
def k0_dev103 (d0 : Dev nD) : Nat :=
  let c0_i32_3240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3239 : BitVec 32 := 1#32
  let v2400 : BitVec 32 := Scalar.muli v5 c1_i32_3239
  let v2401 : BitVec 32 := Scalar.addi c0_i32_3240 v2400
  v2401.toNat
def k0_dev104 (d0 : Dev nD) : Nat :=
  let c0_i32_3254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3253 : BitVec 32 := 1#32
  let v2404 : BitVec 32 := Scalar.muli v7 c1_i32_3253
  let v2405 : BitVec 32 := Scalar.addi c0_i32_3254 v2404
  v2405.toNat
def k0_dev105 (d0 : Dev nD) : Nat :=
  let c0_i32_3305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3304 : BitVec 32 := 1#32
  let v2447 : BitVec 32 := Scalar.muli v7 c1_i32_3304
  let v2448 : BitVec 32 := Scalar.addi c0_i32_3305 v2447
  v2448.toNat
def k0_dev106 (d0 : Dev nD) : Nat :=
  let c0_i32_3319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3318 : BitVec 32 := 1#32
  let v2451 : BitVec 32 := Scalar.muli v5 c1_i32_3318
  let v2452 : BitVec 32 := Scalar.addi c0_i32_3319 v2451
  v2452.toNat
def k0_off4 (d0 : Dev nD) : Fin 2 → Nat :=
  let c0_i32_3376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3367 : BitVec 32 := 6#32
  let v2493 : BitVec 32 := Scalar.subi v2 c6_i32_3367
  let c1_i32_3368 : BitVec 32 := 1#32
  let v2494 : BitVec 32 := Scalar.subi v2493 c1_i32_3368
  let c8_i32_3369 : BitVec 32 := 8#32
  let v2495 : BitVec 32 := Scalar.addi v2494 c8_i32_3369
  let c8_i32_3370 : BitVec 32 := 8#32
  let v2496 : BitVec 32 := Scalar.remsi v2495 c8_i32_3370
  let c1024_i32_3371 : BitVec 32 := 1024#32
  let v2497 : BitVec 32 := Scalar.muli v2496 c1024_i32_3371
  let c0_i32_3372 : BitVec 32 := 0#32
  let v2498 : BitVec 32 := Scalar.addi v2497 c0_i32_3372
  ![0, v2498.toNat]
def k0_dev107 (d0 : Dev nD) : Nat :=
  let c0_i32_3389 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3388 : BitVec 32 := 1#32
  let v2506 : BitVec 32 := Scalar.muli v7 c1_i32_3388
  let v2507 : BitVec 32 := Scalar.addi c0_i32_3389 v2506
  v2507.toNat
def k0_off5 (d0 : Dev nD) : Fin 2 → Nat :=
  let c0_i32_3443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3435 : BitVec 32 := 6#32
  let v2546 : BitVec 32 := Scalar.addi v2 c6_i32_3435
  let c1_i32_3436 : BitVec 32 := 1#32
  let v2547 : BitVec 32 := Scalar.addi v2546 c1_i32_3436
  let c8_i32_3437 : BitVec 32 := 8#32
  let v2548 : BitVec 32 := Scalar.remsi v2547 c8_i32_3437
  let c1024_i32_3438 : BitVec 32 := 1024#32
  let v2549 : BitVec 32 := Scalar.muli v2548 c1024_i32_3438
  let c512_i32_3439 : BitVec 32 := 512#32
  let v2550 : BitVec 32 := Scalar.addi v2549 c512_i32_3439
  ![0, v2550.toNat]
def k0_dev108 (d0 : Dev nD) : Nat :=
  let c0_i32_3456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3455 : BitVec 32 := 1#32
  let v2558 : BitVec 32 := Scalar.muli v5 c1_i32_3455
  let v2559 : BitVec 32 := Scalar.addi c0_i32_3456 v2558
  v2559.toNat
def k0_off6 (d0 : Dev nD) : Fin 2 → Nat :=
  let c1024_i32_3512 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3503 : BitVec 32 := 6#32
  let v2599 : BitVec 32 := Scalar.subi v2 c6_i32_3503
  let c1_i32_3504 : BitVec 32 := 1#32
  let v2600 : BitVec 32 := Scalar.subi v2599 c1_i32_3504
  let c8_i32_3505 : BitVec 32 := 8#32
  let v2601 : BitVec 32 := Scalar.addi v2600 c8_i32_3505
  let c8_i32_3506 : BitVec 32 := 8#32
  let v2602 : BitVec 32 := Scalar.remsi v2601 c8_i32_3506
  let c1024_i32_3507 : BitVec 32 := 1024#32
  let v2603 : BitVec 32 := Scalar.muli v2602 c1024_i32_3507
  let c0_i32_3508 : BitVec 32 := 0#32
  let v2604 : BitVec 32 := Scalar.addi v2603 c0_i32_3508
  ![1024, v2604.toNat]
def k0_dev109 (d0 : Dev nD) : Nat :=
  let c0_i32_3525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3524 : BitVec 32 := 1#32
  let v2612 : BitVec 32 := Scalar.muli v7 c1_i32_3524
  let v2613 : BitVec 32 := Scalar.addi c0_i32_3525 v2612
  v2613.toNat
def k0_off7 (d0 : Dev nD) : Fin 2 → Nat :=
  let c1024_i32_3579 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3571 : BitVec 32 := 6#32
  let v2652 : BitVec 32 := Scalar.addi v2 c6_i32_3571
  let c1_i32_3572 : BitVec 32 := 1#32
  let v2653 : BitVec 32 := Scalar.addi v2652 c1_i32_3572
  let c8_i32_3573 : BitVec 32 := 8#32
  let v2654 : BitVec 32 := Scalar.remsi v2653 c8_i32_3573
  let c1024_i32_3574 : BitVec 32 := 1024#32
  let v2655 : BitVec 32 := Scalar.muli v2654 c1024_i32_3574
  let c512_i32_3575 : BitVec 32 := 512#32
  let v2656 : BitVec 32 := Scalar.addi v2655 c512_i32_3575
  ![1024, v2656.toNat]
def k0_dev110 (d0 : Dev nD) : Nat :=
  let c0_i32_3592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3591 : BitVec 32 := 1#32
  let v2664 : BitVec 32 := Scalar.muli v5 c1_i32_3591
  let v2665 : BitVec 32 := Scalar.addi c0_i32_3592 v2664
  v2665.toNat
def k0_off8 (d0 : Dev nD) : Fin 2 → Nat :=
  let c2048_i32_3648 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3639 : BitVec 32 := 6#32
  let v2705 : BitVec 32 := Scalar.subi v2 c6_i32_3639
  let c1_i32_3640 : BitVec 32 := 1#32
  let v2706 : BitVec 32 := Scalar.subi v2705 c1_i32_3640
  let c8_i32_3641 : BitVec 32 := 8#32
  let v2707 : BitVec 32 := Scalar.addi v2706 c8_i32_3641
  let c8_i32_3642 : BitVec 32 := 8#32
  let v2708 : BitVec 32 := Scalar.remsi v2707 c8_i32_3642
  let c1024_i32_3643 : BitVec 32 := 1024#32
  let v2709 : BitVec 32 := Scalar.muli v2708 c1024_i32_3643
  let c0_i32_3644 : BitVec 32 := 0#32
  let v2710 : BitVec 32 := Scalar.addi v2709 c0_i32_3644
  ![2048, v2710.toNat]
def k0_dev111 (d0 : Dev nD) : Nat :=
  let c0_i32_3661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3660 : BitVec 32 := 1#32
  let v2718 : BitVec 32 := Scalar.muli v7 c1_i32_3660
  let v2719 : BitVec 32 := Scalar.addi c0_i32_3661 v2718
  v2719.toNat
def k0_off9 (d0 : Dev nD) : Fin 2 → Nat :=
  let c2048_i32_3715 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3707 : BitVec 32 := 6#32
  let v2758 : BitVec 32 := Scalar.addi v2 c6_i32_3707
  let c1_i32_3708 : BitVec 32 := 1#32
  let v2759 : BitVec 32 := Scalar.addi v2758 c1_i32_3708
  let c8_i32_3709 : BitVec 32 := 8#32
  let v2760 : BitVec 32 := Scalar.remsi v2759 c8_i32_3709
  let c1024_i32_3710 : BitVec 32 := 1024#32
  let v2761 : BitVec 32 := Scalar.muli v2760 c1024_i32_3710
  let c512_i32_3711 : BitVec 32 := 512#32
  let v2762 : BitVec 32 := Scalar.addi v2761 c512_i32_3711
  ![2048, v2762.toNat]
def k0_dev112 (d0 : Dev nD) : Nat :=
  let c0_i32_3728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3727 : BitVec 32 := 1#32
  let v2770 : BitVec 32 := Scalar.muli v5 c1_i32_3727
  let v2771 : BitVec 32 := Scalar.addi c0_i32_3728 v2770
  v2771.toNat
def k0_off10 (d0 : Dev nD) : Fin 2 → Nat :=
  let c3072_i32_3784 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3775 : BitVec 32 := 6#32
  let v2811 : BitVec 32 := Scalar.subi v2 c6_i32_3775
  let c1_i32_3776 : BitVec 32 := 1#32
  let v2812 : BitVec 32 := Scalar.subi v2811 c1_i32_3776
  let c8_i32_3777 : BitVec 32 := 8#32
  let v2813 : BitVec 32 := Scalar.addi v2812 c8_i32_3777
  let c8_i32_3778 : BitVec 32 := 8#32
  let v2814 : BitVec 32 := Scalar.remsi v2813 c8_i32_3778
  let c1024_i32_3779 : BitVec 32 := 1024#32
  let v2815 : BitVec 32 := Scalar.muli v2814 c1024_i32_3779
  let c0_i32_3780 : BitVec 32 := 0#32
  let v2816 : BitVec 32 := Scalar.addi v2815 c0_i32_3780
  ![3072, v2816.toNat]
def k0_dev113 (d0 : Dev nD) : Nat :=
  let c0_i32_3797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3796 : BitVec 32 := 1#32
  let v2824 : BitVec 32 := Scalar.muli v7 c1_i32_3796
  let v2825 : BitVec 32 := Scalar.addi c0_i32_3797 v2824
  v2825.toNat
def k0_off11 (d0 : Dev nD) : Fin 2 → Nat :=
  let c3072_i32_3851 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3843 : BitVec 32 := 6#32
  let v2864 : BitVec 32 := Scalar.addi v2 c6_i32_3843
  let c1_i32_3844 : BitVec 32 := 1#32
  let v2865 : BitVec 32 := Scalar.addi v2864 c1_i32_3844
  let c8_i32_3845 : BitVec 32 := 8#32
  let v2866 : BitVec 32 := Scalar.remsi v2865 c8_i32_3845
  let c1024_i32_3846 : BitVec 32 := 1024#32
  let v2867 : BitVec 32 := Scalar.muli v2866 c1024_i32_3846
  let c512_i32_3847 : BitVec 32 := 512#32
  let v2868 : BitVec 32 := Scalar.addi v2867 c512_i32_3847
  ![3072, v2868.toNat]
def k0_dev114 (d0 : Dev nD) : Nat :=
  let c0_i32_3864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3863 : BitVec 32 := 1#32
  let v2876 : BitVec 32 := Scalar.muli v5 c1_i32_3863
  let v2877 : BitVec 32 := Scalar.addi c0_i32_3864 v2876
  v2877.toNat
def k0_off12 (d0 : Dev nD) (c0_i32_3880 : BitVec 32) : Fin 2 → Nat :=
  let c0_i32_3895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2892 : BitVec 32 := Scalar.subi v2 c0_i32_3880
  let c8_i32_3881 : BitVec 32 := 8#32
  let v2893 : BitVec 32 := Scalar.addi v2892 c8_i32_3881
  let c8_i32_3882 : BitVec 32 := 8#32
  let v2894 : BitVec 32 := Scalar.remsi v2893 c8_i32_3882
  let c1024_i32_3885 : BitVec 32 := 1024#32
  let v2897 : BitVec 32 := Scalar.muli v2894 c1024_i32_3885
  let c0_i32_3886 : BitVec 32 := 0#32
  let v2898 : BitVec 32 := Scalar.addi v2897 c0_i32_3886
  ![0, v2898.toNat]
def k0_dev115 (d0 : Dev nD) : Nat :=
  let c0_i32_3894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3893 : BitVec 32 := 1#32
  let v2899 : BitVec 32 := Scalar.muli v7 c1_i32_3893
  let v2900 : BitVec 32 := Scalar.addi c0_i32_3894 v2899
  v2900.toNat
def k0_off13 (d0 : Dev nD) (c0_i32_3909 : BitVec 32) : Fin 2 → Nat :=
  let c0_i32_3923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2914 : BitVec 32 := Scalar.addi v2 c0_i32_3909
  let c8_i32_3910 : BitVec 32 := 8#32
  let v2915 : BitVec 32 := Scalar.remsi v2914 c8_i32_3910
  let c1024_i32_3913 : BitVec 32 := 1024#32
  let v2918 : BitVec 32 := Scalar.muli v2915 c1024_i32_3913
  let c512_i32_3914 : BitVec 32 := 512#32
  let v2919 : BitVec 32 := Scalar.addi v2918 c512_i32_3914
  ![0, v2919.toNat]
def k0_dev116 (d0 : Dev nD) : Nat :=
  let c0_i32_3922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3921 : BitVec 32 := 1#32
  let v2920 : BitVec 32 := Scalar.muli v5 c1_i32_3921
  let v2921 : BitVec 32 := Scalar.addi c0_i32_3922 v2920
  v2921.toNat
def k0_off14 (d0 : Dev nD) (c0_i32_3937 : BitVec 32) : Fin 2 → Nat :=
  let c1024_i32_3952 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2935 : BitVec 32 := Scalar.subi v2 c0_i32_3937
  let c8_i32_3938 : BitVec 32 := 8#32
  let v2936 : BitVec 32 := Scalar.addi v2935 c8_i32_3938
  let c8_i32_3939 : BitVec 32 := 8#32
  let v2937 : BitVec 32 := Scalar.remsi v2936 c8_i32_3939
  let c1024_i32_3942 : BitVec 32 := 1024#32
  let v2940 : BitVec 32 := Scalar.muli v2937 c1024_i32_3942
  let c0_i32_3943 : BitVec 32 := 0#32
  let v2941 : BitVec 32 := Scalar.addi v2940 c0_i32_3943
  ![1024, v2941.toNat]
def k0_dev117 (d0 : Dev nD) : Nat :=
  let c0_i32_3951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3950 : BitVec 32 := 1#32
  let v2942 : BitVec 32 := Scalar.muli v7 c1_i32_3950
  let v2943 : BitVec 32 := Scalar.addi c0_i32_3951 v2942
  v2943.toNat
def k0_off15 (d0 : Dev nD) (c0_i32_3966 : BitVec 32) : Fin 2 → Nat :=
  let c1024_i32_3980 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2957 : BitVec 32 := Scalar.addi v2 c0_i32_3966
  let c8_i32_3967 : BitVec 32 := 8#32
  let v2958 : BitVec 32 := Scalar.remsi v2957 c8_i32_3967
  let c1024_i32_3970 : BitVec 32 := 1024#32
  let v2961 : BitVec 32 := Scalar.muli v2958 c1024_i32_3970
  let c512_i32_3971 : BitVec 32 := 512#32
  let v2962 : BitVec 32 := Scalar.addi v2961 c512_i32_3971
  ![1024, v2962.toNat]
def k0_dev118 (d0 : Dev nD) : Nat :=
  let c0_i32_3979 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_3978 : BitVec 32 := 1#32
  let v2963 : BitVec 32 := Scalar.muli v5 c1_i32_3978
  let v2964 : BitVec 32 := Scalar.addi c0_i32_3979 v2963
  v2964.toNat
def k0_off16 (d0 : Dev nD) (c0_i32_3994 : BitVec 32) : Fin 2 → Nat :=
  let c2048_i32_4009 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2978 : BitVec 32 := Scalar.subi v2 c0_i32_3994
  let c8_i32_3995 : BitVec 32 := 8#32
  let v2979 : BitVec 32 := Scalar.addi v2978 c8_i32_3995
  let c8_i32_3996 : BitVec 32 := 8#32
  let v2980 : BitVec 32 := Scalar.remsi v2979 c8_i32_3996
  let c1024_i32_3999 : BitVec 32 := 1024#32
  let v2983 : BitVec 32 := Scalar.muli v2980 c1024_i32_3999
  let c0_i32_4000 : BitVec 32 := 0#32
  let v2984 : BitVec 32 := Scalar.addi v2983 c0_i32_4000
  ![2048, v2984.toNat]
def k0_dev119 (d0 : Dev nD) : Nat :=
  let c0_i32_4008 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4007 : BitVec 32 := 1#32
  let v2985 : BitVec 32 := Scalar.muli v7 c1_i32_4007
  let v2986 : BitVec 32 := Scalar.addi c0_i32_4008 v2985
  v2986.toNat
def k0_off17 (d0 : Dev nD) (c0_i32_4023 : BitVec 32) : Fin 2 → Nat :=
  let c2048_i32_4037 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3000 : BitVec 32 := Scalar.addi v2 c0_i32_4023
  let c8_i32_4024 : BitVec 32 := 8#32
  let v3001 : BitVec 32 := Scalar.remsi v3000 c8_i32_4024
  let c1024_i32_4027 : BitVec 32 := 1024#32
  let v3004 : BitVec 32 := Scalar.muli v3001 c1024_i32_4027
  let c512_i32_4028 : BitVec 32 := 512#32
  let v3005 : BitVec 32 := Scalar.addi v3004 c512_i32_4028
  ![2048, v3005.toNat]
def k0_dev120 (d0 : Dev nD) : Nat :=
  let c0_i32_4036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4035 : BitVec 32 := 1#32
  let v3006 : BitVec 32 := Scalar.muli v5 c1_i32_4035
  let v3007 : BitVec 32 := Scalar.addi c0_i32_4036 v3006
  v3007.toNat
def k0_off18 (d0 : Dev nD) (c0_i32_4051 : BitVec 32) : Fin 2 → Nat :=
  let c3072_i32_4066 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3021 : BitVec 32 := Scalar.subi v2 c0_i32_4051
  let c8_i32_4052 : BitVec 32 := 8#32
  let v3022 : BitVec 32 := Scalar.addi v3021 c8_i32_4052
  let c8_i32_4053 : BitVec 32 := 8#32
  let v3023 : BitVec 32 := Scalar.remsi v3022 c8_i32_4053
  let c1024_i32_4056 : BitVec 32 := 1024#32
  let v3026 : BitVec 32 := Scalar.muli v3023 c1024_i32_4056
  let c0_i32_4057 : BitVec 32 := 0#32
  let v3027 : BitVec 32 := Scalar.addi v3026 c0_i32_4057
  ![3072, v3027.toNat]
def k0_dev121 (d0 : Dev nD) : Nat :=
  let c0_i32_4065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4064 : BitVec 32 := 1#32
  let v3028 : BitVec 32 := Scalar.muli v7 c1_i32_4064
  let v3029 : BitVec 32 := Scalar.addi c0_i32_4065 v3028
  v3029.toNat
def k0_off19 (d0 : Dev nD) (c0_i32_4080 : BitVec 32) : Fin 2 → Nat :=
  let c3072_i32_4094 : BitVec 32 := 3072#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3043 : BitVec 32 := Scalar.addi v2 c0_i32_4080
  let c8_i32_4081 : BitVec 32 := 8#32
  let v3044 : BitVec 32 := Scalar.remsi v3043 c8_i32_4081
  let c1024_i32_4084 : BitVec 32 := 1024#32
  let v3047 : BitVec 32 := Scalar.muli v3044 c1024_i32_4084
  let c512_i32_4085 : BitVec 32 := 512#32
  let v3048 : BitVec 32 := Scalar.addi v3047 c512_i32_4085
  ![3072, v3048.toNat]
def k0_dev122 (d0 : Dev nD) : Nat :=
  let c0_i32_4093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4092 : BitVec 32 := 1#32
  let v3049 : BitVec 32 := Scalar.muli v5 c1_i32_4092
  let v3050 : BitVec 32 := Scalar.addi c0_i32_4093 v3049
  v3050.toNat
def k0_dev123 (d0 : Dev nD) : Nat :=
  let c0_i32_4120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4119 : BitVec 32 := 1#32
  let v3070 : BitVec 32 := Scalar.muli v7 c1_i32_4119
  let v3071 : BitVec 32 := Scalar.addi c0_i32_4120 v3070
  v3071.toNat
def k0_dev124 (d0 : Dev nD) : Nat :=
  let c0_i32_4146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4145 : BitVec 32 := 1#32
  let v3090 : BitVec 32 := Scalar.muli v5 c1_i32_4145
  let v3091 : BitVec 32 := Scalar.addi c0_i32_4146 v3090
  v3091.toNat
def k0_dev125 (d0 : Dev nD) : Nat :=
  let c0_i32_4173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4172 : BitVec 32 := 1#32
  let v3111 : BitVec 32 := Scalar.muli v7 c1_i32_4172
  let v3112 : BitVec 32 := Scalar.addi c0_i32_4173 v3111
  v3112.toNat
def k0_dev126 (d0 : Dev nD) : Nat :=
  let c0_i32_4199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4198 : BitVec 32 := 1#32
  let v3131 : BitVec 32 := Scalar.muli v5 c1_i32_4198
  let v3132 : BitVec 32 := Scalar.addi c0_i32_4199 v3131
  v3132.toNat
def k0_dev127 (d0 : Dev nD) : Nat :=
  let c0_i32_4226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4225 : BitVec 32 := 1#32
  let v3152 : BitVec 32 := Scalar.muli v7 c1_i32_4225
  let v3153 : BitVec 32 := Scalar.addi c0_i32_4226 v3152
  v3153.toNat
def k0_dev128 (d0 : Dev nD) : Nat :=
  let c0_i32_4252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4251 : BitVec 32 := 1#32
  let v3172 : BitVec 32 := Scalar.muli v5 c1_i32_4251
  let v3173 : BitVec 32 := Scalar.addi c0_i32_4252 v3172
  v3173.toNat
def k0_dev129 (d0 : Dev nD) : Nat :=
  let c0_i32_4279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4278 : BitVec 32 := 1#32
  let v3193 : BitVec 32 := Scalar.muli v7 c1_i32_4278
  let v3194 : BitVec 32 := Scalar.addi c0_i32_4279 v3193
  v3194.toNat
def k0_dev130 (d0 : Dev nD) : Nat :=
  let c0_i32_4305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4304 : BitVec 32 := 1#32
  let v3213 : BitVec 32 := Scalar.muli v5 c1_i32_4304
  let v3214 : BitVec 32 := Scalar.addi c0_i32_4305 v3213
  v3214.toNat
def k0_dev131 (d0 : Dev nD) : Nat :=
  let c0_i32_4332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4331 : BitVec 32 := 1#32
  let v3234 : BitVec 32 := Scalar.muli v7 c1_i32_4331
  let v3235 : BitVec 32 := Scalar.addi c0_i32_4332 v3234
  v3235.toNat
def k0_dev132 (d0 : Dev nD) : Nat :=
  let c0_i32_4358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4357 : BitVec 32 := 1#32
  let v3254 : BitVec 32 := Scalar.muli v5 c1_i32_4357
  let v3255 : BitVec 32 := Scalar.addi c0_i32_4358 v3254
  v3255.toNat
def k0_dev133 (d0 : Dev nD) : Nat :=
  let c0_i32_4385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4384 : BitVec 32 := 1#32
  let v3275 : BitVec 32 := Scalar.muli v7 c1_i32_4384
  let v3276 : BitVec 32 := Scalar.addi c0_i32_4385 v3275
  v3276.toNat
def k0_dev134 (d0 : Dev nD) : Nat :=
  let c0_i32_4411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4410 : BitVec 32 := 1#32
  let v3295 : BitVec 32 := Scalar.muli v5 c1_i32_4410
  let v3296 : BitVec 32 := Scalar.addi c0_i32_4411 v3295
  v3296.toNat
def k0_dev135 (d0 : Dev nD) : Nat :=
  let c0_i32_4438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4437 : BitVec 32 := 1#32
  let v3316 : BitVec 32 := Scalar.muli v7 c1_i32_4437
  let v3317 : BitVec 32 := Scalar.addi c0_i32_4438 v3316
  v3317.toNat
def k0_dev136 (d0 : Dev nD) : Nat :=
  let c0_i32_4464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4463 : BitVec 32 := 1#32
  let v3336 : BitVec 32 := Scalar.muli v5 c1_i32_4463
  let v3337 : BitVec 32 := Scalar.addi c0_i32_4464 v3336
  v3337.toNat
def k0_dev137 (d0 : Dev nD) : Nat :=
  let c0_i32_4491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4490 : BitVec 32 := 1#32
  let v3357 : BitVec 32 := Scalar.muli v7 c1_i32_4490
  let v3358 : BitVec 32 := Scalar.addi c0_i32_4491 v3357
  v3358.toNat
def k0_dev138 (d0 : Dev nD) : Nat :=
  let c0_i32_4517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4516 : BitVec 32 := 1#32
  let v3377 : BitVec 32 := Scalar.muli v5 c1_i32_4516
  let v3378 : BitVec 32 := Scalar.addi c0_i32_4517 v3377
  v3378.toNat
def k0_dev139 (d0 : Dev nD) : Nat :=
  let c0_i32_4544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4543 : BitVec 32 := 1#32
  let v3398 : BitVec 32 := Scalar.muli v7 c1_i32_4543
  let v3399 : BitVec 32 := Scalar.addi c0_i32_4544 v3398
  v3399.toNat
def k0_dev140 (d0 : Dev nD) : Nat :=
  let c0_i32_4570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4569 : BitVec 32 := 1#32
  let v3418 : BitVec 32 := Scalar.muli v5 c1_i32_4569
  let v3419 : BitVec 32 := Scalar.addi c0_i32_4570 v3418
  v3419.toNat
def k0_dev141 (d0 : Dev nD) : Nat :=
  let c0_i32_4597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4596 : BitVec 32 := 1#32
  let v3439 : BitVec 32 := Scalar.muli v7 c1_i32_4596
  let v3440 : BitVec 32 := Scalar.addi c0_i32_4597 v3439
  v3440.toNat
def k0_dev142 (d0 : Dev nD) : Nat :=
  let c0_i32_4623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4622 : BitVec 32 := 1#32
  let v3459 : BitVec 32 := Scalar.muli v5 c1_i32_4622
  let v3460 : BitVec 32 := Scalar.addi c0_i32_4623 v3459
  v3460.toNat
def k0_dev143 (d0 : Dev nD) : Nat :=
  let c0_i32_4650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4649 : BitVec 32 := 1#32
  let v3480 : BitVec 32 := Scalar.muli v7 c1_i32_4649
  let v3481 : BitVec 32 := Scalar.addi c0_i32_4650 v3480
  v3481.toNat
def k0_dev144 (d0 : Dev nD) : Nat :=
  let c0_i32_4676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4675 : BitVec 32 := 1#32
  let v3500 : BitVec 32 := Scalar.muli v5 c1_i32_4675
  let v3501 : BitVec 32 := Scalar.addi c0_i32_4676 v3500
  v3501.toNat
def k0_dev145 (d0 : Dev nD) : Nat :=
  let c0_i32_4703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4702 : BitVec 32 := 1#32
  let v3521 : BitVec 32 := Scalar.muli v7 c1_i32_4702
  let v3522 : BitVec 32 := Scalar.addi c0_i32_4703 v3521
  v3522.toNat
def k0_dev146 (d0 : Dev nD) : Nat :=
  let c0_i32_4729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4728 : BitVec 32 := 1#32
  let v3541 : BitVec 32 := Scalar.muli v5 c1_i32_4728
  let v3542 : BitVec 32 := Scalar.addi c0_i32_4729 v3541
  v3542.toNat
def k0_dev147 (d0 : Dev nD) : Nat :=
  let c0_i32_4756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4755 : BitVec 32 := 1#32
  let v3562 : BitVec 32 := Scalar.muli v7 c1_i32_4755
  let v3563 : BitVec 32 := Scalar.addi c0_i32_4756 v3562
  v3563.toNat
def k0_dev148 (d0 : Dev nD) : Nat :=
  let c0_i32_4782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4781 : BitVec 32 := 1#32
  let v3582 : BitVec 32 := Scalar.muli v5 c1_i32_4781
  let v3583 : BitVec 32 := Scalar.addi c0_i32_4782 v3582
  v3583.toNat
def k0_dev149 (d0 : Dev nD) : Nat :=
  let c0_i32_4809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4808 : BitVec 32 := 1#32
  let v3603 : BitVec 32 := Scalar.muli v7 c1_i32_4808
  let v3604 : BitVec 32 := Scalar.addi c0_i32_4809 v3603
  v3604.toNat
def k0_dev150 (d0 : Dev nD) : Nat :=
  let c0_i32_4835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4834 : BitVec 32 := 1#32
  let v3623 : BitVec 32 := Scalar.muli v5 c1_i32_4834
  let v3624 : BitVec 32 := Scalar.addi c0_i32_4835 v3623
  v3624.toNat
def k0_dev151 (d0 : Dev nD) : Nat :=
  let c0_i32_4862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4861 : BitVec 32 := 1#32
  let v3644 : BitVec 32 := Scalar.muli v7 c1_i32_4861
  let v3645 : BitVec 32 := Scalar.addi c0_i32_4862 v3644
  v3645.toNat
def k0_dev152 (d0 : Dev nD) : Nat :=
  let c0_i32_4888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4887 : BitVec 32 := 1#32
  let v3664 : BitVec 32 := Scalar.muli v5 c1_i32_4887
  let v3665 : BitVec 32 := Scalar.addi c0_i32_4888 v3664
  v3665.toNat
def k0_dev153 (d0 : Dev nD) : Nat :=
  let c0_i32_4915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4914 : BitVec 32 := 1#32
  let v3685 : BitVec 32 := Scalar.muli v7 c1_i32_4914
  let v3686 : BitVec 32 := Scalar.addi c0_i32_4915 v3685
  v3686.toNat
def k0_dev154 (d0 : Dev nD) : Nat :=
  let c0_i32_4941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4940 : BitVec 32 := 1#32
  let v3705 : BitVec 32 := Scalar.muli v5 c1_i32_4940
  let v3706 : BitVec 32 := Scalar.addi c0_i32_4941 v3705
  v3706.toNat
def k0_dev155 (d0 : Dev nD) : Nat :=
  let c0_i32_4968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4967 : BitVec 32 := 1#32
  let v3726 : BitVec 32 := Scalar.muli v7 c1_i32_4967
  let v3727 : BitVec 32 := Scalar.addi c0_i32_4968 v3726
  v3727.toNat
def k0_dev156 (d0 : Dev nD) : Nat :=
  let c0_i32_4994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_4993 : BitVec 32 := 1#32
  let v3746 : BitVec 32 := Scalar.muli v5 c1_i32_4993
  let v3747 : BitVec 32 := Scalar.addi c0_i32_4994 v3746
  v3747.toNat
def k0_dev157 (d0 : Dev nD) : Nat :=
  let c0_i32_5021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5020 : BitVec 32 := 1#32
  let v3767 : BitVec 32 := Scalar.muli v7 c1_i32_5020
  let v3768 : BitVec 32 := Scalar.addi c0_i32_5021 v3767
  v3768.toNat
def k0_dev158 (d0 : Dev nD) : Nat :=
  let c0_i32_5047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5046 : BitVec 32 := 1#32
  let v3787 : BitVec 32 := Scalar.muli v5 c1_i32_5046
  let v3788 : BitVec 32 := Scalar.addi c0_i32_5047 v3787
  v3788.toNat
def k0_dev159 (d0 : Dev nD) : Nat :=
  let c0_i32_5074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5073 : BitVec 32 := 1#32
  let v3808 : BitVec 32 := Scalar.muli v7 c1_i32_5073
  let v3809 : BitVec 32 := Scalar.addi c0_i32_5074 v3808
  v3809.toNat
def k0_dev160 (d0 : Dev nD) : Nat :=
  let c0_i32_5100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5099 : BitVec 32 := 1#32
  let v3828 : BitVec 32 := Scalar.muli v5 c1_i32_5099
  let v3829 : BitVec 32 := Scalar.addi c0_i32_5100 v3828
  v3829.toNat
def k0_dev161 (d0 : Dev nD) : Nat :=
  let c0_i32_5127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_5126 : BitVec 32 := 1#32
  let v3849 : BitVec 32 := Scalar.muli v7 c1_i32_5126
  let v3850 : BitVec 32 := Scalar.addi c0_i32_5127 v3849
  v3850.toNat
def k0_dev162 (d0 : Dev nD) : Nat :=
  let c0_i32_5153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_5152 : BitVec 32 := 1#32
  let v3869 : BitVec 32 := Scalar.muli v5 c1_i32_5152
  let v3870 : BitVec 32 := Scalar.addi c0_i32_5153 v3869
  v3870.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel's body as a sequence of steps

One device's work is eight lanes, a direction `d : Fin 2` around the ring and a group of rows `g : Fin 4`. This
module names the memrefs, semaphores and operations of a lane, lists a device's steps in the order the kernel takes
them, and shows the printed body equal to that list.
-/
module

public import proofs.«01_k».proof.Proof.Gen.KernelIdeal.Skeleton
public import Idealize.ShloMosaic.Lib.Pipeline.Regions

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- One device's program. -/
abbrev P (F : FTy → Type) : Type 1 := Prog (TpuEff nD τ sig (Elt F) Λ₀ .tc) PUnit

/-! ## The buffers -/

abbrev xM : Memref sig .tc .vmem S4096x512 .f32 := Memref.whole cc0_stg0_0
abbrev wM : Memref sig .tc .vmem S512x8192 .f32 := Memref.whole cc0_stg1_0
abbrev oM : Memref sig .tc .hbm S4096x8192 .f32 := Memref.whole main_v1
abbrev aM : Memref sig .tc .vmem S2x4096x512 .f32 := Memref.whole cc0_scratch0
abbrev rM : Memref sig .tc .vmem S2x4096x512 .f32 := Memref.whole cc0_scratch1

theorem inbX (g : Fin 4) : ∀ a, (![1024 * g.val, 0] : Fin 2 → ℕ) a + S1024x512.size a ≤ S4096x512.size a := by
  revert g; decide +kernel
theorem inbA (d : Fin 2) (g : Fin 4) : ∀ a, (![d.val, 1024 * g.val, 0] : Fin 3 → ℕ) a + S1x1024x512.size a ≤ S2x4096x512.size a := by
  revert d g; decide +kernel
theorem inbS (d : Fin 2) (s : Fin 7) (g : Fin 4) : ∀ a, (![d.val, s.val, g.val] : Fin 3 → ℕ) a + S1x1x1.size a ≤ S2x7x4.size a := by
  revert d s g; decide +kernel
theorem inbC (d : Fin 2) (g : Fin 4) : ∀ a, (![d.val, g.val] : Fin 2 → ℕ) a + S1x1.size a ≤ S2x4.size a := by
  revert d g; decide +kernel

/-- Row group `g` of the staged `x`. -/
abbrev xR (g : Fin 4) : Rect S4096x512 := Rect.unit (s := S4096x512) ![1024 * g.val, 0] S1024x512.size (inbX g)
/-- The half block of columns of the staged weights at offset `o`. -/
abbrev wR (o : Fin 2 → ℕ) (h : ∀ a, o a + S512x512.size a ≤ S512x8192.size a) : Rect S512x8192 := Rect.unit (s := S512x8192) o S512x512.size h
/-- A lane's slot of an accumulator or landing buffer. -/
abbrev lR (d : Fin 2) (g : Fin 4) : Rect S2x4096x512 := Rect.unit (s := S2x4096x512) ![d.val, 1024 * g.val, 0] S1x1024x512.size (inbA d g)

/-- A lane's slot as the transfers address it. -/
abbrev slot (M : Memref sig .tc .vmem S2x4096x512 .f32) (d : Fin 2) (g : Fin 4) : Memref sig .tc .vmem S1024x512 .f32 :=
  (M.slice (lR d g) (fun _ => rfl)).squeeze S1024x512 squeezes_S1x1024x512_S1024x512
/-- The block of the result at offset `o`. -/
abbrev out (o : Fin 2 → ℕ) (h : ∀ a, o a + S1024x512.size a ≤ S4096x8192.size a) : Memref sig .tc .hbm S1024x512 .f32 :=
  oM.slice (Rect.unit (s := S4096x8192) o S1024x512.size h) (fun _ => rfl)

/-- The semaphore of a lane's transfer `s`. -/
abbrev semT (A : DmaSems sig S2x7x4) (d : Fin 2) (s : Fin 7) (g : Fin 4) : DmaSem sig :=
  ((A.slice (Rect.unit (s := S2x7x4) ![d.val, s.val, g.val] S1x1x1.size (inbS d s g))).squeeze S_ squeezes_S1x1x1_S_).sem
/-- The semaphore of a lane's local copy. -/
abbrev semL (d : Fin 2) (g : Fin 4) : DmaSem sig :=
  ((cc0_scratch6.slice (Rect.unit (s := S2x4) ![d.val, g.val] S1x1.size (inbC d g))).squeeze S_ squeezes_S1x1_S_).sem
/-- The semaphore by which a lane's landing slot is freed. -/
abbrev semK (d : Fin 2) (g : Fin 4) : Sem sig :=
  ((cc0_scratch7.slice (Rect.unit (s := S2x4) ![d.val, g.val] S1x1.size (inbC d g))).squeeze S_ squeezes_S1x1_S_).sem
/-- The runtime's barrier semaphore. -/
abbrev semB : Sem sig := (SemArray.scalar (sig.barrier 0 rfl) : Sems sig S_).sem

/-! ## The two values a lane stores -/

/-- The product of a row group with a half block of columns. -/
abbrev dotV (x : Vec F S1024x512 .f32) (w : Vec F S512x512 .f32) : FVec F S1024x512 .f32 :=
  matmul dot_S1024x512_S512x512_S1024x512_1_0_0_1_n_n none (shapeCast S1024x512 x shapeCasts_S1024x512_S1024x512)
    (shapeCast S512x512 w shapeCasts_S512x512_S512x512) (constant S1024x512 .f32 0x00000000#32)
/-- What a lane stores first. -/
def pay0 (x : Vec F S1024x512 .f32) (w : Vec F S512x512 .f32) : FVec F S1x1024x512 .f32 :=
  shapeCast S1x1024x512 (dotV x w) shapeCasts_S1024x512_S1x1024x512
/-- What a lane stores on what has landed. -/
def pay1 (r : Vec F S1x1024x512 .f32) (x : Vec F S1024x512 .f32) (w : Vec F S512x512 .f32) : FVec F S1x1024x512 .f32 :=
  shapeCast S1x1024x512 (addf (shapeCast S1024x512 r shapeCasts_S1x1024x512_S1024x512) (dotV x w)) shapeCasts_S1024x512_S1x1024x512

/-! ## The operations, each before a continuation -/

def ldX (g : Fin 4) (k : Vec F S1024x512 .f32 → P F) : P F :=
  .op (.load xM (xR g).toLoadRect (View.loadsAt_vmem h_S1024x512)) k
def ldW (o : Fin 2 → ℕ) (h : ∀ a, o a + S512x512.size a ≤ S512x8192.size a) (k : Vec F S512x512 .f32 → P F) : P F :=
  .op (.load wM (wR o h).toLoadRect (View.loadsAt_vmem h_S512x512)) k
def ldL (M : Memref sig .tc .vmem S2x4096x512 .f32) (d : Fin 2) (g : Fin 4) (k : Vec F S1x1024x512 .f32 → P F) : P F :=
  .op (.load M (lR d g).toLoadRect (View.loadsAt_vmem h_S1x1024x512)) k
def stA (d : Fin 2) (g : Fin 4) (v : FVec F S1x1024x512 .f32) (k : P F) : P F :=
  .op (.store aM (lR d g) v Finset.univ (View.stores_vmem_bits_univ h_S1x1024x512 rfl) (.inl rfl)) fun _ => k
/-- Signal one unit. -/
def sig1 (n : Dev nD) (q : Sem sig) (k : P F) : P F := .op (.semSignal n q 1) fun _ => k
def waitS (q : Sem sig) (u : ℕ) (k : P F) : P F := .op (.semWait q u) fun _ => k

/-- Transfer `s` of the accumulator into the neighbour `n`'s landing slot. -/
def sendR (d : Fin 2) (s : Fin 7) (g : Fin 4) (n : Dev nD) (k : P F) : P F :=
  .op (.enqueueDma (slot aM d g) (.remote (Dev.tc n) (slot rM d g) (.dma (semT cc0_scratch2 d s g))) (.dma (semT cc0_scratch3 d s g))
    ((View.wordExact_bits rfl).reshape _ _) ((View.wordExact_bits rfl).reshape _ _) ⟨⟨rfl, Or.inl rfl⟩, trivial⟩) fun _ => k
/-- The copy of the accumulator into the device's own result. -/
def copyL (d : Fin 2) (g : Fin 4) (o : Fin 2 → ℕ) (h : ∀ a, o a + S1024x512.size a ≤ S4096x8192.size a) (k : P F) : P F :=
  .op (.enqueueDma (slot aM d g) (.here (out o h)) (.dma (semL d g))
    ((View.wordExact_bits rfl).reshape _ _) (View.wordExact_bits rfl) ⟨Or.inl rfl, trivial⟩) fun _ => k
/-- The accumulator into the neighbour `n`'s result. -/
def sendA (d : Fin 2) (g : Fin 4) (n : Dev nD) (o : Fin 2 → ℕ) (h : ∀ a, o a + S1024x512.size a ≤ S4096x8192.size a) (k : P F) : P F :=
  .op (.enqueueDma (slot aM d g) (.remote (Dev.tc n) (out o h) (.dma (semT cc0_scratch4 d 0 g))) (.dma (semT cc0_scratch5 d 0 g))
    ((View.wordExact_bits rfl).reshape _ _) (View.wordExact_bits rfl) ⟨⟨rfl, Or.inl rfl⟩, trivial⟩) fun _ => k
/-- A block of the result into the neighbour `n`'s. -/
def sendO (d : Fin 2) (s : Fin 7) (g : Fin 4) (n : Dev nD) (o : Fin 2 → ℕ) (h : ∀ a, o a + S1024x512.size a ≤ S4096x8192.size a) (k : P F) : P F :=
  .op (.enqueueDma (out o h) (.remote (Dev.tc n) (out o h) (.dma (semT cc0_scratch4 d s g))) (.dma (semT cc0_scratch5 d s g))
    (View.wordExact_bits rfl) (View.wordExact_bits rfl) ⟨⟨rfl, Or.inl rfl⟩, trivial⟩) fun _ => k

def waitRS (d : Fin 2) (s : Fin 7) (g : Fin 4) (k : P F) : P F :=
  .op (.waitDma2 (semT cc0_scratch2 d s g) (slot rM d g) (slot aM d g) ((View.wordExact_bits rfl).reshape _ _) ((View.wordExact_bits rfl).reshape _ _)) fun _ => k
def waitRR (d : Fin 2) (s : Fin 7) (g : Fin 4) (k : P F) : P F :=
  .op (.waitDma2 (semT cc0_scratch3 d s g) (slot aM d g) (slot rM d g) ((View.wordExact_bits rfl).reshape _ _) ((View.wordExact_bits rfl).reshape _ _)) fun _ => k
/-- Wait for a transfer of the accumulator into a result, at a block of the result. -/
def waitAO (q : DmaSem sig) (d : Fin 2) (g : Fin 4) (o : Fin 2 → ℕ) (h : ∀ a, o a + S1024x512.size a ≤ S4096x8192.size a) (k : P F) : P F :=
  .op (.waitDma2 q (slot aM d g) (out o h) ((View.wordExact_bits rfl).reshape _ _) (View.wordExact_bits rfl)) fun _ => k
/-- Wait for such a transfer's source to be read. -/
def waitOA (q : DmaSem sig) (d : Fin 2) (g : Fin 4) (o : Fin 2 → ℕ) (h : ∀ a, o a + S1024x512.size a ≤ S4096x8192.size a) (k : P F) : P F :=
  .op (.waitDma2 q (out o h) (slot aM d g) (View.wordExact_bits rfl) ((View.wordExact_bits rfl).reshape _ _)) fun _ => k
def waitOO (q : DmaSem sig) (o : Fin 2 → ℕ) (h : ∀ a, o a + S1024x512.size a ≤ S4096x8192.size a) (k : P F) : P F :=
  .op (.waitDma2 q (out o h) (out o h) (View.wordExact_bits rfl) (View.wordExact_bits rfl)) fun _ => k

/-! ## The device numbers and offsets the kernel computes -/

/-- The neighbour a direction sends to. -/
def tgtK (d : Fin 2) (c : Dev nD) : Dev nD := match d with
  | 0 => ⟨k0_dev3 c, k0_dev3_lt c⟩
  | 1 => ⟨k0_dev4 c, k0_dev4_lt c⟩
/-- The neighbour a direction receives from. -/
def upsK (d : Fin 2) (c : Dev nD) : Dev nD := match d with
  | 0 => ⟨k0_dev11 c, k0_dev11_lt c⟩
  | 1 => ⟨k0_dev13 c, k0_dev13_lt c⟩

def offC (d : Fin 2) (c : Dev nD) : Fin 2 → ℕ := k0_off1 c (BitVec.ofNat 32 (512 * d.val))
theorem offC_inb (d : Fin 2) (c : Dev nD) : ∀ a, offC d c a + S512x512.size a ≤ S512x8192.size a := k0_off1_inb c d
def offW (d : Fin 2) (c : Dev nD) (s : Fin 7) : Fin 2 → ℕ := match d with
  | 0 => k0_off2 c (BitVec.ofNat 32 s.val)
  | 1 => k0_off3 c (BitVec.ofNat 32 s.val)
theorem offW_inb (d : Fin 2) (c : Dev nD) (s : Fin 7) : ∀ a, offW d c s a + S512x512.size a ≤ S512x8192.size a := match d with
  | 0 => k0_off2_inb c s
  | 1 => k0_off3_inb c s
def offO (d : Fin 2) (g : Fin 4) (c : Dev nD) : Fin 2 → ℕ := match d, g with
  | 0, 0 => k0_off4 c | 1, 0 => k0_off5 c | 0, 1 => k0_off6 c | 1, 1 => k0_off7 c
  | 0, 2 => k0_off8 c | 1, 2 => k0_off9 c | 0, 3 => k0_off10 c | 1, 3 => k0_off11 c
theorem offO_inb (d : Fin 2) (g : Fin 4) (c : Dev nD) : ∀ a, offO d g c a + S1024x512.size a ≤ S4096x8192.size a := match d, g with
  | 0, 0 => k0_off4_inb c | 1, 0 => k0_off5_inb c | 0, 1 => k0_off6_inb c | 1, 1 => k0_off7_inb c
  | 0, 2 => k0_off8_inb c | 1, 2 => k0_off9_inb c | 0, 3 => k0_off10_inb c | 1, 3 => k0_off11_inb c
def offG (d : Fin 2) (g : Fin 4) (c : Dev nD) (t : Fin 6) : Fin 2 → ℕ := match d, g with
  | 0, 0 => k0_off12 c (BitVec.ofNat 32 t.val) | 1, 0 => k0_off13 c (BitVec.ofNat 32 t.val)
  | 0, 1 => k0_off14 c (BitVec.ofNat 32 t.val) | 1, 1 => k0_off15 c (BitVec.ofNat 32 t.val)
  | 0, 2 => k0_off16 c (BitVec.ofNat 32 t.val) | 1, 2 => k0_off17 c (BitVec.ofNat 32 t.val)
  | 0, 3 => k0_off18 c (BitVec.ofNat 32 t.val) | 1, 3 => k0_off19 c (BitVec.ofNat 32 t.val)
theorem offG_inb (d : Fin 2) (g : Fin 4) (c : Dev nD) (t : Fin 6) : ∀ a, offG d g c t a + S1024x512.size a ≤ S4096x8192.size a := match d, g with
  | 0, 0 => k0_off12_inb c t | 1, 0 => k0_off13_inb c t | 0, 1 => k0_off14_inb c t | 1, 1 => k0_off15_inb c t
  | 0, 2 => k0_off16_inb c t | 1, 2 => k0_off17_inb c t | 0, 3 => k0_off18_inb c t | 1, 3 => k0_off19_inb c t

/-! ## A lane's steps, and a device's -/

/-- A step of a lane: its first product; a transfer of a partial sum; a partial sum added to; a landing slot freed
    and the next awaited; the last sum put into both results; a block passed on; the last waits. -/
inductive Step where
  | first | send (s : Fin 7) | add (s : Fin 7) | free (s : Fin 6) | done | pass (t : Fin 6) | last
  deriving DecidableEq

/-- A step as the kernel prints it, on device `c`. -/
def stepK (c : Dev nD) (d : Fin 2) (g : Fin 4) : Step → P F → P F
  | .first, k => ldX g fun x => ldW (offC d c) (offC_inb d c) fun w => ldL aM d g fun _ => stA d g (pay0 x w) k
  | .send s, k => sendR d s g (tgtK d c) k
  | .add s, k => waitRS d s g <| waitRR d s g <| ldL rM d g fun r => ldX g fun x => ldW (offW d c s) (offW_inb d c s) fun w =>
      ldL aM d g fun _ => stA d g (pay1 r x w) k
  | .free _, k => sig1 (upsK d c) (semK d g) <| waitS (semK d g) 1 k
  | .done, k => copyL d g (offO d g c) (offO_inb d g c) <| sendA d g (tgtK d c) (offO d g c) (offO_inb d g c) k
  | .pass 0, k => waitAO (semT cc0_scratch5 d 0 g) d g (offO d g c) (offO_inb d g c) <| sendO d 1 g (tgtK d c) (offG d g c 0) (offG_inb d g c 0) k
  | .pass 1, k => waitOO (semT cc0_scratch5 d 1 g) (offG d g c 0) (offG_inb d g c 0) <| sendO d 2 g (tgtK d c) (offG d g c 1) (offG_inb d g c 1) k
  | .pass 2, k => waitOO (semT cc0_scratch5 d 2 g) (offG d g c 1) (offG_inb d g c 1) <| sendO d 3 g (tgtK d c) (offG d g c 2) (offG_inb d g c 2) k
  | .pass 3, k => waitOO (semT cc0_scratch5 d 3 g) (offG d g c 2) (offG_inb d g c 2) <| sendO d 4 g (tgtK d c) (offG d g c 3) (offG_inb d g c 3) k
  | .pass 4, k => waitOO (semT cc0_scratch5 d 4 g) (offG d g c 3) (offG_inb d g c 3) <| sendO d 5 g (tgtK d c) (offG d g c 4) (offG_inb d g c 4) k
  | .pass 5, k => waitOO (semT cc0_scratch5 d 5 g) (offG d g c 4) (offG_inb d g c 4) <| sendO d 6 g (tgtK d c) (offG d g c 5) (offG_inb d g c 5) k
  | .last, k => waitOO (semT cc0_scratch5 d 6 g) (offG d g c 5) (offG_inb d g c 5) <|
      waitOA (semT cc0_scratch4 d 0 g) d g (offO d g c) (offO_inb d g c) <|
      waitOO (semT cc0_scratch4 d 1 g) (offG d g c 0) (offG_inb d g c 0) <| waitOO (semT cc0_scratch4 d 2 g) (offG d g c 1) (offG_inb d g c 1) <|
      waitOO (semT cc0_scratch4 d 3 g) (offG d g c 2) (offG_inb d g c 2) <| waitOO (semT cc0_scratch4 d 4 g) (offG d g c 3) (offG_inb d g c 3) <|
      waitOO (semT cc0_scratch4 d 5 g) (offG d g c 4) (offG_inb d g c 4) <| waitOO (semT cc0_scratch4 d 6 g) (offG d g c 5) (offG_inb d g c 5) <|
      waitAO (semL d g) d g (offO d g c) (offO_inb d g c) k

/-- A step of a named lane. -/
abbrev LStep : Type := (Fin 2 × Fin 4) × Step

/-- Both directions of every row group, the groups outermost, as the kernel's loops visit them. -/
abbrev lanes : List (Fin 2 × Fin 4) := [(0, 0), (1, 0), (0, 1), (1, 1), (0, 2), (1, 2), (0, 3), (1, 3)]

/-- The steps of a device in the kernel's order. -/
def steps : List LStep :=
  ([0, 1, 2, 3] : List (Fin 4)).flatMap (fun g => [((0, g), .first), ((1, g), .first), ((0, g), .send 0), ((1, g), .send 0)])
    ++ lanes.flatMap (fun l => [(l, .add 0), (l, .free 0), (l, .send 1)])
    ++ lanes.flatMap (fun l => [(l, .add 1), (l, .free 1), (l, .send 2)])
    ++ lanes.flatMap (fun l => [(l, .add 2), (l, .free 2), (l, .send 3)])
    ++ lanes.flatMap (fun l => [(l, .add 3), (l, .free 3), (l, .send 4)])
    ++ lanes.flatMap (fun l => [(l, .add 4), (l, .free 4), (l, .send 5)])
    ++ lanes.flatMap (fun l => [(l, .add 5), (l, .free 5), (l, .send 6)])
    ++ lanes.flatMap (fun l => [(l, .add 6), (l, .done)])
    ++ ([0, 1, 2, 3, 4, 5] : List (Fin 6)).flatMap (fun t => lanes.map fun l => (l, .pass t))
    ++ ([0, 1] : List (Fin 2)).flatMap (fun d => ([0, 1, 2, 3] : List (Fin 4)).map fun g => ((d, g), .last))

/-- The steps run one after another. -/
def run (f : (Fin 2 × Fin 4) → Step → P F → P F) : List LStep → P F
  | [] => .ret ⟨⟩
  | s :: ss => f s.1 s.2 (run f ss)

/-- The body on device `c`: the handshake with both neighbours, then the steps. -/
def bodyK (c : Dev nD) : P F :=
  sig1 ⟨k0_dev1 c, k0_dev1_lt c⟩ semB <| sig1 ⟨k0_dev2 c, k0_dev2_lt c⟩ semB <| waitS semB 2 <|
    run (fun l => stepK c l.1 l.2) steps

set_option maxRecDepth 100000 in
/-- The printed body is the sequence of steps. -/
theorem body_eq : cc0_body (F := F) xM (Memref.isWhole_whole _) wM (Memref.isWhole_whole _) oM (Memref.isWhole_whole _)
    aM (Memref.isWhole_whole _) rM (Memref.isWhole_whole _) cc0_scratch2 cc0_scratch3 cc0_scratch4 cc0_scratch5 cc0_scratch6 cc0_scratch7
      = .op .deviceId bodyK := by
  chain_rfl

end Cert.RingProof

end
-- ==== Proof.Ring.lean ====
/-
# The steps around the ring

The device numbers and offsets the kernel computes, as positions on the ring of eight devices: direction `d` sends to
`tgt d c` and receives from `ups d c`; the block of the result whose last partial sum is made on device `p` is named by
`p`. The steps are restated in these terms.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- The neighbour direction `d` sends to. -/
def tgt (d : Fin 2) (c : Dev nD) : Dev nD := match d with
  | 0 => ⟨(c.val + 1) % 8, Nat.mod_lt _ (by decide)⟩
  | 1 => ⟨(c.val + 7) % 8, Nat.mod_lt _ (by decide)⟩
/-- The neighbour direction `d` receives from. -/
def ups (d : Fin 2) (c : Dev nD) : Dev nD := match d with
  | 0 => ⟨(c.val + 7) % 8, Nat.mod_lt _ (by decide)⟩
  | 1 => ⟨(c.val + 1) % 8, Nat.mod_lt _ (by decide)⟩

theorem ups_tgt (d : Fin 2) (c : Dev nD) : ups d (tgt d c) = c := by revert d c; decide +kernel
theorem tgt_ups (d : Fin 2) (c : Dev nD) : tgt d (ups d c) = c := by revert d c; decide +kernel

/-- The direction as a permutation of the devices. -/
def ringE (d : Fin 2) : Dev nD ≃ Dev nD := ⟨tgt d, ups d, ups_tgt d, tgt_ups d⟩

/-- `u` devices back. -/
abbrev back (d : Fin 2) (u : ℕ) (c : Dev nD) : Dev nD := (ups d)^[u] c

theorem back_tgt (d : Fin 2) (u : ℕ) (c : Dev nD) : back d (u + 1) (tgt d c) = back d u c := by
  rw [back, Function.iterate_succ_apply, ups_tgt]
theorem back_succ (d : Fin 2) (u : ℕ) (c : Dev nD) : back d (u + 1) c = back d u (ups d c) := Function.iterate_succ_apply _ _ _
theorem back_succ' (d : Fin 2) (u : ℕ) (c : Dev nD) : back d (u + 1) c = ups d (back d u c) := Function.iterate_succ_apply' _ _ _

/-- The half block of columns `p` of the staged weights. -/
def wOff (d : Fin 2) (p : Dev nD) : Fin 2 → ℕ := ![0, 1024 * p.val + 512 * d.val]
theorem wInb (d : Fin 2) (p : Dev nD) : ∀ a, wOff d p a + S512x512.size a ≤ S512x8192.size a := by revert d p; decide +kernel
/-- The block of a lane's result whose last partial sum device `p` makes. -/
def oOff (d : Fin 2) (g : Fin 4) (p : Dev nD) : Fin 2 → ℕ := ![1024 * g.val, 1024 * (tgt d p).val + 512 * d.val]
theorem oInb (d : Fin 2) (g : Fin 4) (p : Dev nD) : ∀ a, oOff d g p a + S1024x512.size a ≤ S4096x8192.size a := by
  revert d g p; decide +kernel
abbrev outB (d : Fin 2) (g : Fin 4) (p : Dev nD) : Memref sig .tc .hbm S1024x512 .f32 := out (oOff d g p) (oInb d g p)

theorem tgtK_eq (d : Fin 2) (c : Dev nD) : tgtK d c = tgt d c := by revert d c; decide +kernel
theorem upsK_eq (d : Fin 2) (c : Dev nD) : upsK d c = ups d c := by revert d c; decide +kernel
theorem left_eq (c : Dev nD) : (⟨k0_dev1 c, k0_dev1_lt c⟩ : Dev nD) = ups 0 c := by revert c; decide +kernel
theorem right_eq (c : Dev nD) : (⟨k0_dev2 c, k0_dev2_lt c⟩ : Dev nD) = ups 1 c := by revert c; decide +kernel
theorem offC_eq (d : Fin 2) (c : Dev nD) : offC d c = wOff d c := by revert d c; decide +kernel
theorem offW_eq (d : Fin 2) (c : Dev nD) (s : Fin 7) : offW d c s = wOff d (back d (s.val + 1) c) := by revert d c s; decide +kernel
theorem offO_eq (d : Fin 2) (g : Fin 4) (c : Dev nD) : offO d g c = oOff d g c := by revert d g c; decide +kernel
theorem offG_eq (d : Fin 2) (g : Fin 4) (c : Dev nD) (t : Fin 6) : offG d g c t = oOff d g (back d (t.val + 1) c) := by
  revert d g c t; decide +kernel

/-! ## The steps -/

/-- Wait for the arrival of a block: the first arrives from an accumulator, the others from a result. -/
def waitIn (t : Fin 7) (q : DmaSem sig) (d : Fin 2) (g : Fin 4) (p : Dev nD) (k : P F) : P F :=
  if t = 0 then waitAO q d g (oOff d g p) (oInb d g p) k else waitOO q (oOff d g p) (oInb d g p) k

/-- Wait for block `u` of the result to have been read. -/
def waitBack (c : Dev nD) (d : Fin 2) (g : Fin 4) (u : Fin 7) (k : P F) : P F :=
  waitOO (semT cc0_scratch4 d u g) (oOff d g (back d u.val c)) (oInb d g (back d u.val c)) k

/-- A step of lane `(d, g)` on device `c`. -/
def stepR (c : Dev nD) (d : Fin 2) (g : Fin 4) : Step → P F → P F
  | .first, k => ldX g fun x => ldW (wOff d c) (wInb d c) fun w => ldL aM d g fun _ => stA d g (pay0 x w) k
  | .send s, k => sendR d s g (tgt d c) k
  | .add s, k => waitRS d s g <| waitRR d s g <| ldL rM d g fun r => ldX g fun x =>
      ldW (wOff d (back d (s.val + 1) c)) (wInb d _) fun w => ldL aM d g fun _ => stA d g (pay1 r x w) k
  | .free _, k => sig1 (ups d c) (semK d g) <| waitS (semK d g) 1 k
  | .done, k => copyL d g (oOff d g c) (oInb d g c) <| sendA d g (tgt d c) (oOff d g c) (oInb d g c) k
  | .pass t, k => waitIn t.castSucc (semT cc0_scratch5 d t.castSucc g) d g (back d t.val c) <|
      sendO d t.succ g (tgt d c) (oOff d g (back d (t.val + 1) c)) (oInb d g _) k
  | .last, k => waitIn 6 (semT cc0_scratch5 d 6 g) d g (back d 6 c) <|
      waitOA (semT cc0_scratch4 d 0 g) d g (oOff d g c) (oInb d g c) <|
      waitBack c d g 1 <| waitBack c d g 2 <| waitBack c d g 3 <| waitBack c d g 4 <| waitBack c d g 5 <| waitBack c d g 6 <|
      waitAO (semL d g) d g (oOff d g c) (oInb d g c) k

theorem waitOO_congr (q : DmaSem sig) {o o' : Fin 2 → ℕ} (e : o = o') (h) (h') (k : P F) : waitOO q o h k = waitOO q o' h' k := by
  subst e; rfl
theorem sendO_congr (d : Fin 2) (s : Fin 7) (g : Fin 4) {n n' : Dev nD} (en : n = n') {o o' : Fin 2 → ℕ} (e : o = o') (h) (h') (k : P F) :
    sendO d s g n o h k = sendO d s g n' o' h' k := by subst e en; rfl
theorem waitAO_congr (q : DmaSem sig) (d : Fin 2) (g : Fin 4) {o o' : Fin 2 → ℕ} (e : o = o') (h) (h') (k : P F) :
    waitAO q d g o h k = waitAO q d g o' h' k := by subst e; rfl
theorem waitOA_congr (q : DmaSem sig) (d : Fin 2) (g : Fin 4) {o o' : Fin 2 → ℕ} (e : o = o') (h) (h') (k : P F) :
    waitOA q d g o h k = waitOA q d g o' h' k := by subst e; rfl
theorem ldW_congr {o o' : Fin 2 → ℕ} (e : o = o') (h) (h') (k : Vec F S512x512 .f32 → P F) : ldW o h k = ldW o' h' k := by
  subst e; rfl
theorem copyL_congr (d : Fin 2) (g : Fin 4) {o o' : Fin 2 → ℕ} (e : o = o') (h) (h') (k : P F) : copyL d g o h k = copyL d g o' h' k := by
  subst e; rfl
theorem sendA_congr (d : Fin 2) (g : Fin 4) {n n' : Dev nD} (en : n = n') {o o' : Fin 2 → ℕ} (e : o = o') (h) (h') (k : P F) :
    sendA d g n o h k = sendA d g n' o' h' k := by subst e en; rfl

/-- A step as printed is the step around the ring. -/
theorem stepK_eq (c : Dev nD) (d : Fin 2) (g : Fin 4) (s : Step) (k : P F) : stepK c d g s k = stepR c d g s k := by
  have hp (q : DmaSem sig) (t : Fin 6) (k : P F) :
      waitOO q (offG d g c t) (offG_inb d g c t) k = waitOO q (oOff d g (back d (t.val + 1) c)) (oInb d g _) k := waitOO_congr q (offG_eq d g c t) _ _ k
  have hs (s : Fin 7) (t : Fin 6) (k : P F) :
      sendO d s g (tgtK d c) (offG d g c t) (offG_inb d g c t) k = sendO d s g (tgt d c) (oOff d g (back d (t.val + 1) c)) (oInb d g _) k :=
    sendO_congr d s g (tgtK_eq d c) (offG_eq d g c t) _ _ k
  have ha (q : DmaSem sig) (k : P F) : waitAO q d g (offO d g c) (offO_inb d g c) k = waitAO q d g (oOff d g c) (oInb d g c) k :=
    waitAO_congr q d g (offO_eq d g c) _ _ k
  have hb (q : DmaSem sig) (k : P F) : waitOA q d g (offO d g c) (offO_inb d g c) k = waitOA q d g (oOff d g c) (oInb d g c) k :=
    waitOA_congr q d g (offO_eq d g c) _ _ k
  cases s with
  | first => exact congrArg (ldX g) (funext fun x => ldW_congr (offC_eq d c) _ _ _)
  | send s => exact congrArg (fun n => sendR d s g n k) (tgtK_eq d c)
  | add s => exact congrArg (fun k => waitRS d s g (waitRR d s g (ldL rM d g k))) (funext fun r => congrArg (ldX g) (funext fun x =>
      ldW_congr (offW_eq d c s) _ _ _))
  | free s => exact congrArg (fun n => sig1 n (semK d g) (waitS (semK d g) 1 k)) (upsK_eq d c)
  | done => exact (copyL_congr d g (offO_eq d g c) _ _ _).trans (congrArg _ (sendA_congr d g (tgtK_eq d c) (offO_eq d g c) _ _ k))
  | pass t =>
    fin_cases t
    · exact (congrArg _ (hs 1 0 k)).trans (ha _ _)
    · exact (congrArg _ (hs 2 1 k)).trans (hp _ 0 _)
    · exact (congrArg _ (hs 3 2 k)).trans (hp _ 1 _)
    · exact (congrArg _ (hs 4 3 k)).trans (hp _ 2 _)
    · exact (congrArg _ (hs 5 4 k)).trans (hp _ 3 _)
    · exact (congrArg _ (hs 6 5 k)).trans (hp _ 4 _)
  | last =>
    dsimp only [stepK]
    simp only [ha, hb, hp]
    rfl

end Cert.RingProof

end
-- ==== Proof.Proto.lean ====
/-
# The protocol around the ring

The semaphores of the kernel as cells, the rounds of each with who pays them and what a payment hands over, the partial
sums the lanes pass on, and the order in which the payments of a device become due.
-/
module

public import proofs.«01_k».proof.Proof.Ring
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- A semaphore of the kernel: of a transfer (of `A`: a partial sum read, landed; a block read, landed), of a local copy,
    of a landing slot's freeing, of the handshake. -/
inductive CK where
  | dma (A : Fin 4) (d : Fin 2) (g : Fin 4) (s : Fin 7)
  | cp (d : Fin 2) (g : Fin 4)
  | cr (d : Fin 2) (g : Fin 4)
  | bar
  deriving DecidableEq

abbrev rsS (d : Fin 2) (g : Fin 4) (s : Fin 7) : CK := .dma 0 d g s
abbrev rsR (d : Fin 2) (g : Fin 4) (s : Fin 7) : CK := .dma 1 d g s
abbrev agS (d : Fin 2) (g : Fin 4) (s : Fin 7) : CK := .dma 2 d g s
abbrev agR (d : Fin 2) (g : Fin 4) (s : Fin 7) : CK := .dma 3 d g s

/-- The semaphores of the transfers. -/
abbrev semA (A : Fin 4) : DmaSems sig S2x7x4 := match A with
  | 0 => cc0_scratch2 | 1 => cc0_scratch3 | 2 => cc0_scratch4 | 3 => cc0_scratch5

abbrev csem : CK → SemLoc sig
  | .dma A d g s => .dma (semT (semA A) d s g)
  | .cp d g => .dma (semL d g)
  | .cr d g => .reg (semK d g)
  | .bar => .reg semB

/-- Which of the kernel's semaphores a semaphore is. -/
def kindOf : SemLoc sig → Option CK
  | .reg q => if q.val = 8 then some .bar else some (.cr (Fin.ofNat 2 (q.val / 4)) (Fin.ofNat 4 (q.val % 4)))
  | .dma q =>
    if q.val < 2 then none
    else if q.val < 226 then
      some (.dma (Fin.ofNat 4 ((q.val - 2) / 56)) (Fin.ofNat 2 ((q.val - 2) % 56 / 28)) (Fin.ofNat 4 ((q.val - 2) % 4)) (Fin.ofNat 7 ((q.val - 2) % 28 / 4)))
    else some (.cp (Fin.ofNat 2 ((q.val - 226) / 4)) (Fin.ofNat 4 ((q.val - 226) % 4)))

theorem kindOf_csem (k : CK) : kindOf (csem k) = some k := by
  rcases k with ⟨A, d, g, s⟩ | ⟨d, g⟩ | ⟨d, g⟩ | _
  · revert A d g s; decide +kernel
  · revert d g; decide +kernel
  · revert d g; decide +kernel
  · decide +kernel

theorem csem_injective : Function.Injective csem := fun k k' h => by
  have := congrArg kindOf h
  rwa [kindOf_csem, kindOf_csem, Option.some.injEq] at this

abbrev cell (c : Dev nD) (k : CK) : GSem nD τ sig := ((c : Thread nD τ), csem k)

/-! ## The resources -/

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- The bytes' credit of a transfer. -/
abbrev N : ℕ := 65536

/-- The units of a payment to a cell. -/
def amt : CK → ℕ
  | .dma _ _ _ _ => N | .cp _ _ => N | .cr _ _ => 1 | .bar => 1

/-- The device whose cell `k` a device pays; a handshake's cell is paid along either direction `j`. -/
def payE : CK → Fin 2 → Dev nD ≃ Dev nD
  | .dma A d _ _, _ => if A = 1 ∨ A = 3 then ringE d else Equiv.refl _
  | .cp _ _, _ => Equiv.refl _
  | .cr d _, _ => (ringE d).symm
  | .bar, j => (ringE j).symm

/-- A payment: to which cell, which of its duties, in which round. -/
abbrev Ent : Type := CK × Fin 2 × ℕ

def duty (c : Dev nD) (e : Ent) : sProp 𝕄 := dutyTok ER (cell (payE e.1 e.2.1 c) e.1) e.2.2 e.2.1
def due (c : Dev nD) (e : Ent) : CellTallies nD τ sig ℕ := tallyAt (cell (payE e.1 e.2.1 c) e.1) e.2.2 (amt e.1)
def crd (c : Dev nD) (e : Ent) : sProp 𝕄 := cred (tallyAt (cell c e.1) e.2.2 (amt e.1))
def pos0 (c : Dev nD) (k : CK) : sProp 𝕄 := atPos ER (cell c k) 0 ∅ 0
def zero (c : Dev nD) (k : CK) : sProp 𝕄 := semVal (cell c k) 0

/-- What a list of payments amounts to. -/
def owed (c : Dev nD) : List Ent → CellTallies nD τ sig ℕ
  | [] => 0
  | e :: l => owed c l + due c e

/-- What a device owes, whatever it has waited for. -/
def ow (c : Dev nD) (l : List Ent) : sProp 𝕄 := iprop(∃ W, owes (c : Thread nD τ) (owed c l) W)

/-- A memref of a device held at given contents, outright. -/
abbrev own (c : Dev nD) {sp : Space} {sh : Shape} (m : Memref sig .tc sp sh .f32) (V : Vec F sh .f32) : sProp 𝕄 :=
  owns (c : Thread nD τ) m fullShare V
/-- The same at some contents. -/
abbrev any (c : Dev nD) {sp : Space} {sh : Shape} (m : Memref sig .tc sp sh .f32) : sProp 𝕄 := iprop(∃ V : Vec F sh .f32, own c m V)

/-! ## The partial sums -/

section Values

variable (X : Dev nD → Vec F S4096x512 .f32) (Wt : Dev nD → Vec F S512x8192 .f32)

/-- Device `c`'s product of row group `g` with the half block of columns `p`. -/
def prodV (d : Fin 2) (g : Fin 4) (c p : Dev nD) : Vec F S1024x512 .f32 :=
  dotV (xM.view.readAt (Elt F) (xR g).toLoadRect (X c)) (wM.view.readAt (Elt F) (wR (wOff d p) (wInb d p)).toLoadRect (Wt c))

/-- The sum on device `c` after `s` transfers. -/
def accV (d : Fin 2) (g : Fin 4) : ℕ → Dev nD → Vec F S1024x512 .f32
  | 0, c => prodV X Wt d g c c
  | s + 1, c => addf (accV d g s (ups d c)) (prodV X Wt d g c (back d (s + 1) c))

/-- The last sum device `p` makes. -/
abbrev finV (d : Fin 2) (g : Fin 4) (p : Dev nD) : Vec F S1024x512 .f32 := accV X Wt d g 7 p

/-- Block `p` of lane `(d, g)` of device `c`'s result, final. -/
abbrev blk (d : Fin 2) (g : Fin 4) (c p : Dev nD) : sProp 𝕄 := own c (outB d g p) (finV X Wt d g p)

/-- The blocks of the neighbour's result a lane still has to fill, the next first. -/
def outs (d : Fin 2) (g : Fin 4) (c : Dev nD) : ℕ → sProp 𝕄
  | 0 => iprop(emp)
  | n + 1 => iprop(any (tgt d c) (outB d g (back d (6 - n) c)) ∗ outs d g c n)

/-- What the neighbour hands a lane at the handshake. -/
def give (d : Fin 2) (c : Dev nD) (g : Fin 4) : sProp 𝕄 := iprop(any (tgt d c) (slot rM d g) ∗ outs d g c 7)

/-- What a payment hands the owner `c` of cell `k`. -/
def payK (c : Dev nD) (k : CK) (r : ℕ) (j : Fin 2) : sProp 𝕄 :=
  match k with
  | .dma 0 d g s => own c (slot aM d g) (accV X Wt d g s.val c)
  | .dma 1 d g s => iprop(own c (slot rM d g) (accV X Wt d g s.val (ups d c)) ∗ reached ER (cell (ups d c) (.cr d g)) s.val)
  | .dma 2 d g s => if s = 0 then owns (c : Thread nD τ) (slot aM d g) fullShare.right (finV X Wt d g c) else blk X Wt d g c (back d s.val c)
  | .dma 3 d g s => blk X Wt d g c (back d (s.val + 1) c)
  | .cp d g => iprop(blk X Wt d g c c ∗ owns (c : Thread nD τ) (slot aM d g) fullShare.left (finV X Wt d g c))
  | .cr d g => any (tgt d c) (slot rM d g)
  | .bar => iprop(give j c 0 ∗ give j c 1 ∗ give j c 2 ∗ give j c 3)

instance outs_storable (d : Fin 2) (g : Fin 4) (c : Dev nD) (n : ℕ) : BI.Storable (upEmb : UEmb _ 𝕄) (outs (F := F) d g c n) := by
  induction n with
  | zero => unfold outs; infer_instance
  | succ n ih => unfold outs; infer_instance

instance give_storable (d : Fin 2) (g : Fin 4) (c : Dev nD) : BI.Storable (upEmb : UEmb _ 𝕄) (give (F := F) d c g) := by
  unfold give; infer_instance

instance payK_storable (c : Dev nD) (k : CK) (r : ℕ) (j : Fin 2) : BI.Storable (upEmb : UEmb _ 𝕄) (payK X Wt c k r j) := by
  rcases k with ⟨A, d, g, s⟩ | ⟨d, g⟩ | ⟨d, g⟩ | _
  · fin_cases A
    · show BI.Storable upEmb (own c (slot aM d g) (accV X Wt d g s.val c)); infer_instance
    · show BI.Storable upEmb iprop(own c (slot rM d g) (accV X Wt d g s.val (ups d c)) ∗ reached ER (cell (ups d c) (.cr d g)) s.val); infer_instance
    · show BI.Storable upEmb (if s = 0 then owns (c : Thread nD τ) (slot aM d g) fullShare.right (finV X Wt d g c) else blk X Wt d g c (back d s.val c))
      split <;> infer_instance
    · show BI.Storable upEmb (blk X Wt d g c (back d (s.val + 1) c)); infer_instance
  · show BI.Storable upEmb iprop(blk X Wt d g c c ∗ owns (c : Thread nD τ) (slot aM d g) fullShare.left (finV X Wt d g c)); infer_instance
  · show BI.Storable upEmb (any (tgt d c) (slot rM d g)); infer_instance
  · show BI.Storable upEmb iprop(give j c 0 ∗ give j c 1 ∗ give j c 2 ∗ give j c 3); infer_instance

/-- The duties of a cell's round. -/
def dutiesK : CK → ℕ → Finset (Fin 2)
  | .dma _ _ _ _, r => if r = 0 then {0} else ∅
  | .cp _ _, r => if r = 0 then {0} else ∅
  | .cr _ _, r => if r < 6 then {0} else ∅
  | .bar, r => if r = 0 then Finset.univ else ∅

theorem amt_pos (k : CK) : 0 < amt k := by cases k <;> simp [amt]

/-- The rounds of every cell. -/
def Rd : Rounds.Schedule (GSem nD τ sig) (Fin 2) 𝕄 where
  duties g r := match kindOf g.2 with | some k => dutiesK k r | none => ∅
  unitless _ := False
  amount g _ _ := match kindOf g.2 with | some k => amt k | none => 1
  payload g r j := match kindOf g.2 with | some k => payK X Wt g.1.1 k r j | none => iprop(emp)
  amount_pos g _ _ _ := by cases kindOf g.2 with
    | none => exact Nat.one_pos
    | some k => exact amt_pos k

instance Rd_payload_storable (g : GSem nD τ sig) (r : ℕ) (d : Fin 2) : BI.Storable (upEmb : UEmb _ 𝕄) ((Rd X Wt).payload g r d) := by
  show BI.Storable upEmb (match kindOf g.2 with | some k => payK X Wt g.1.1 k r d | none => iprop(emp))
  cases kindOf g.2 <;> infer_instance

theorem duties_eq (c : Dev nD) (k : CK) (r : ℕ) : (Rd X Wt).duties (cell c k) r = dutiesK k r := by
  show (match kindOf (csem k) with | some k => dutiesK k r | none => ∅) = _
  rw [kindOf_csem]
theorem amount_eq (c : Dev nD) (k : CK) (r : ℕ) (j : Fin 2) : (Rd X Wt).amount (cell c k) r j = amt k := by
  show (match kindOf (csem k) with | some k => amt k | none => 1) = _
  rw [kindOf_csem]
theorem payload_eq (c : Dev nD) (k : CK) (r : ℕ) (j : Fin 2) : (Rd X Wt).payload (cell c k) r j = payK X Wt c k r j := by
  show (match kindOf (csem k) with | some k => payK X Wt c k r j | none => iprop(emp)) = _
  rw [kindOf_csem]

/-- A round with the one duty asks for its amount -/
theorem expect_one (c : Dev nD) {k : CK} {r : ℕ} (h : dutiesK k r = {0}) : (Rd X Wt).expect (cell c k) r = amt k := by
  unfold Schedule.expect Schedule.amountOf; rw [duties_eq, h, Finset.sum_singleton, amount_eq]
/-- and hands over its payload. -/
theorem rest_one (c : Dev nD) {k : CK} {r : ℕ} (h : dutiesK k r = {0}) :
    bigSep ((Rd X Wt).duties (cell c k) r \ ∅) (fun d => (Rd X Wt).payload (cell c k) r d) = payK X Wt c k r 0 := by
  rw [Finset.sdiff_empty, duties_eq, h, bigSep_singleton, payload_eq]
theorem expect_bar (c : Dev nD) : (Rd X Wt).expect (cell c .bar) 0 = 2 := by
  unfold Schedule.expect Schedule.amountOf
  rw [duties_eq, Finset.sum_congr rfl fun d _ => amount_eq X Wt c .bar 0 d]; rfl
theorem rest_bar (c : Dev nD) : bigSep ((Rd X Wt).duties (cell c .bar) 0 \ ∅) (fun d => (Rd X Wt).payload (cell c .bar) 0 d)
    = iprop(payK X Wt c .bar 0 0 ∗ payK X Wt c .bar 0 1) := by
  rw [Finset.sdiff_empty, duties_eq, show dutiesK .bar 0 = Finset.univ from rfl, bigSep_univ_eq_bigSepL [0, 1] (by decide) (by decide), bigSepL_cons_cons,
    bigSepL_singleton, payload_eq, payload_eq]
  rfl

/-! ## The records every device reads -/

section Records

variable (K : Dev nD × CK → ℕ)

/-- The cells in order. -/
def cks : List CK :=
  ([0, 1, 2, 3] : List (Fin 4)).flatMap (fun A => ([0, 1] : List (Fin 2)).flatMap fun d => ([0, 1, 2, 3] : List (Fin 4)).flatMap fun g =>
      ([0, 1, 2, 3, 4, 5, 6] : List (Fin 7)).map fun s => .dma A d g s)
    ++ ([0, 1] : List (Fin 2)).flatMap (fun d => ([0, 1, 2, 3] : List (Fin 4)).map fun g => .cp d g)
    ++ ([0, 1] : List (Fin 2)).flatMap (fun d => ([0, 1, 2, 3] : List (Fin 4)).map fun g => .cr d g)
    ++ [.bar]

theorem cks_complete (k : CK) : k ∈ cks := by
  rcases k with ⟨A, d, g, s⟩ | ⟨d, g⟩ | ⟨d, g⟩ | _
  · refine List.mem_append_left _ (List.mem_append_left _ (List.mem_append_left _ ?_))
    exact List.mem_flatMap.mpr ⟨A, by revert A; decide, List.mem_flatMap.mpr ⟨d, by revert d; decide, List.mem_flatMap.mpr ⟨g, by revert g; decide,
      List.mem_map.mpr ⟨s, by revert s; decide, rfl⟩⟩⟩⟩
  · refine List.mem_append_left _ (List.mem_append_left _ (List.mem_append_right _ ?_))
    exact List.mem_flatMap.mpr ⟨d, by revert d; decide, List.mem_map.mpr ⟨g, by revert g; decide, rfl⟩⟩
  · refine List.mem_append_left _ (List.mem_append_right _ ?_)
    exact List.mem_flatMap.mpr ⟨d, by revert d; decide, List.mem_map.mpr ⟨g, by revert g; decide, rfl⟩⟩
  · exact List.mem_append_right _ (List.mem_singleton_self _)

theorem cks_nodup : cks.Nodup := by decide +kernel

instance : Fintype CK := ⟨⟨cks, cks_nodup⟩, cks_complete⟩

def records : sProp 𝕄 :=
  iprop((bigSep Finset.univ fun ck : Dev nD × CK => cellInv ER (Rd X Wt) (K ck) (cell ck.1 ck.2))
    ∗ bigSep Finset.univ fun ck : Dev nD × CK => reached ER (cell ck.1 ck.2) 0)

instance records_persistent : BI.Persistent (records X Wt K) := by unfold records; infer_instance

theorem inv_at (c : Dev nD) (k : CK) : records X Wt K ⊢ cellInv ER (Rd X Wt) (K (c, k)) (cell c k) := by
  have h : (bigSep Finset.univ fun ck : Dev nD × CK => (cellInv ER (Rd X Wt) (K ck) (cell ck.1 ck.2) : sProp 𝕄)) ⊢ cellInv ER (Rd X Wt) (K (c, k)) (cell c k) :=
    bigSep_elim (Finset.mem_univ (c, k))
  unfold records
  iintro ⟨H, -⟩
  iapply h; iexact H
theorem reached_at (c : Dev nD) (k : CK) : records X Wt K ⊢ reached ER (cell c k) 0 := by
  have h : (bigSep Finset.univ fun ck : Dev nD × CK => (reached ER (cell ck.1 ck.2) 0 : sProp 𝕄)) ⊢ reached ER (cell c k) 0 :=
    bigSep_elim (Finset.mem_univ (c, k))
  unfold records
  iintro ⟨-, H⟩
  iapply h; iexact H

end Records

end Values

/-! ## The order of the payments -/

/-- The place of a cell's round in the order: what is waited for comes before whatever is then still owed. -/
def rank : CK → ℕ → ℕ
  | .dma 1 d g s, _ => if s = 0 then 2 + (2 * g.val + d.val) else 11 + (8 * (s.val - 1) + (2 * g.val + d.val)) * 2
  | .dma 3 d g s, _ => 106 + (8 * s.val + (2 * g.val + d.val))
  | .dma _ _ _ _, _ => 0
  | .cp _ _, _ => 0
  | .cr d g, r => 10 + (8 * r + (2 * g.val + d.val)) * 2
  | .bar, _ => 1

def L (g : GSem nD τ sig) : Finset ℕ := if g.1.2 = .tc then Finset.range 6 else ∅
def lv (g : GSem nD τ sig) (u : ℕ) : ℕ := match kindOf g.2 with | some k => rank k u | none => 0

theorem L_of_ne (g : GSem nD τ sig) (h : g.1.2 ≠ .tc) : L g = ∅ := if_neg h
theorem L_tc (c : Dev nD) (sm : SemLoc sig) : L ((c : Thread nD τ), sm) = Finset.range 6 := if_pos rfl
theorem lv_cell (c : Dev nD) (k : CK) (u : ℕ) : lv (cell c k) u = rank k u := by
  show (match kindOf (csem k) with | some k => rank k u | none => 0) = _
  rw [kindOf_csem]

/-- What is owed is owed by one of the payments. -/
theorem owed_pos {c : Dev nD} {l : List Ent} {g : GSem nD τ sig} {u : ℕ} (h : 0 < owed c l g u) :
    ∃ e ∈ l, g = cell (payE e.1 e.2.1 c) e.1 ∧ u = e.2.2 := by
  induction l with
  | nil => exact absurd h (Nat.lt_irrefl 0)
  | cons e l ih =>
    unfold owed due at h
    rw [Pi.add_apply, Finsupp.add_apply, tallyAt_apply] at h
    by_cases he : g = cell (payE e.1 e.2.1 c) e.1 ∧ u = e.2.2
    · exact ⟨e, List.mem_cons_self, he⟩
    · rw [if_neg he, Nat.add_zero] at h
      obtain ⟨e', h1, h2⟩ := ih h
      exact ⟨e', List.mem_cons_of_mem _ h1, h2⟩

/-- The payments all come after place `n`. -/
abbrev After (n : ℕ) (l : List Ent) : Prop := ∀ e ∈ l, e.2.2 < 6 ∧ n < rank e.1 e.2.2

theorem mayWait (c : Dev nD) (sm : SemLoc sig) (ι : ℕ) (hι : ι < 6) (l : List Ent) (h : After (lv ((c : Thread nD τ), sm) ι) l) :
    (levAts L lv : sProp 𝕄) ⊢ MayWait (c : Thread nD τ) sm ι (owed c l) :=
  MayOwe.of_cut (L := L) (lev := lv) (lv ((c : Thread nD τ), sm) ι)
    (fun p hp => by rw [Finset.mem_singleton.mp hp, L_tc]; exact Finset.mem_range.mpr hι)
    (fun g u hg => by obtain ⟨e, he, rfl, rfl⟩ := owed_pos hg; rw [L_tc]; exact Finset.mem_range.mpr (h e he).1)
    (fun p hp => by rw [Finset.mem_singleton.mp hp])
    (fun g u hg => by obtain ⟨e, he, rfl, rfl⟩ := owed_pos hg; rw [lv_cell]; exact (h e he).2)

end Cert.RingProof

end
-- ==== Proof.Ops.lean ====
/-
# The operations of a lane under the protocol

One rule per operation of a lane: what it takes of what a device holds, and what it leaves.
-/
module

public import proofs.«01_k».proof.Proof.Proto

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- What a device's program is run to. -/
abbrev Post (F : FTy → Type) [FloatOps F] : Type := PUnit.{1} → sProp (MT nD τ sig ℕ (Elt F) ℕ UU ℕ)

/-- A device's program run to `Q`. -/
abbrev wpP (c : Dev nD) (k : P F) (Q : Post F) : sProp 𝕄 := wp frame (wpE (defs₀ (F := F)) 𝒱₀ (c : Thread nD τ) none) Set.univ k Q

/-! ## Loads and stores -/

section Memory

variable (c : Dev nD) {Q : Post F}

theorem wp_ldX (g : Fin 4) (f : Vec F S4096x512 .f32) (k : Vec F S1024x512 .f32 → P F) :
    (((c : Thread nD τ).loc cc0_stg0_0) ↦{fullShare} f : sProp 𝕄)
      ⊢ iprop(((((c : Thread nD τ).loc cc0_stg0_0) ↦{fullShare} f) -∗ wpP c (k (xM.view.readAt (Elt F) (xR g).toLoadRect f)) Q) -∗ wpP c (ldX g k) Q) :=
  wp_load 𝒱₀ (c : Thread nD τ) none Set.univ (m := xM) (Finset.subset_univ _)

theorem wp_ldW (o : Fin 2 → ℕ) (h : ∀ a, o a + S512x512.size a ≤ S512x8192.size a) (f : Vec F S512x8192 .f32) (k : Vec F S512x512 .f32 → P F) :
    (((c : Thread nD τ).loc cc0_stg1_0) ↦{fullShare} f : sProp 𝕄)
      ⊢ iprop(((((c : Thread nD τ).loc cc0_stg1_0) ↦{fullShare} f) -∗ wpP c (k (wM.view.readAt (Elt F) (wR o h).toLoadRect f)) Q) -∗ wpP c (ldW o h k) Q) :=
  wp_load 𝒱₀ (c : Thread nD τ) none Set.univ (m := wM) (Finset.subset_univ _)

/-- The two ways a lane's slot is addressed have the same elements, -/
theorem slot_set (M : Memref sig .tc .vmem S2x4096x512 .f32) (d : Fin 2) (g : Fin 4) : (M.access (lR d g)).set = (slot M d g).view.set :=
  (View.set_reshape _ _).symm
/-- are read alike -/
theorem slot_read (M : Memref sig .tc .vmem S2x4096x512 .f32) (d : Fin 2) (g : Fin 4) (f : M.view.ty.Contents (Elt F)) :
    (slot M d g).view.read (Elt F) f = shapeCast S1024x512 ((M.access (lR d g)).read (Elt F) f) shapeCasts_S1x1024x512_S1024x512 := rfl
/-- and what is stored by the one is read by the other. -/
theorem slot_store (M : Memref sig .tc .vmem S2x4096x512 .f32) (d : Fin 2) (g : Fin 4) (f : M.view.ty.Contents (Elt F)) (V : Vec F S1024x512 .f32) :
    (slot M d g).view.read (Elt F) ((M.access (lR d g)).write (Elt F) f (shapeCast S1x1024x512 V shapeCasts_S1024x512_S1x1024x512) Finset.univ) = V := by
  rw [slot_read, View.read_write_univ]
  funext j
  show V (Shape.reshapeEquiv _ (Shape.reshapeEquiv _ j)) = V j
  congr 1
  simp only [Shape.reshapeEquiv, Equiv.trans_apply, Equiv.symm_trans_apply, Equiv.apply_symm_apply, Equiv.symm_apply_apply]
  simp

theorem wp_ldL (M : Memref sig .tc .vmem S2x4096x512 .f32) (d : Fin 2) (g : Fin 4) (V : Vec F S1024x512 .f32) (k : Vec F S1x1024x512 .f32 → P F) :
    own c (slot M d g) V
      ⊢ iprop((∀ r, ⌜shapeCast S1024x512 r shapeCasts_S1x1024x512_S1024x512 = V⌝ -∗ own c (slot M d g) V -∗ wpP c (k r) Q) -∗ wpP c (ldL M d g k) Q) := by
  unfold own owns
  iintro ⟨%f, %hf, H⟩ Hk
  iapply (wp_load_rect 𝒱₀ (c : Thread nD τ) none Set.univ (m := M) (r := lR d g) (Finset.Subset.refl _)) $$ [H]
  · rw [slot_set]; iexact H
  iintro H
  ispecialize Hk $$ %((M.access (lR d g)).read (Elt F) f) %(by rw [← slot_read]; exact hf)
  iapply Hk
  iexists f
  isplitr; · ipureintro; exact hf
  rw [slot_set]; iexact H

theorem wp_stA (d : Fin 2) (g : Fin 4) (V : Vec F S1024x512 .f32) (k : P F) :
    any c (slot aM d g)
      ⊢ iprop((own c (slot aM d g) V -∗ wpP c k Q) -∗ wpP c (stA d g (shapeCast S1x1024x512 V shapeCasts_S1024x512_S1x1024x512) k) Q) := by
  unfold any own owns
  iintro ⟨%V0, %f, %hf, H⟩ Hk
  iapply (wp_store 𝒱₀ (c : Thread nD τ) none Set.univ (m := aM) (r := lR d g) (Mk := Finset.univ) (Finset.Subset.refl _)) $$ [H]
  · rw [View.setOn_univ, slot_set]; iexact H
  iintro H
  iapply Hk
  iexists _
  isplitr; · ipureintro; exact slot_store aM d g f V
  rw [View.setOn_univ, slot_set]; iexact H

end Memory

/-! ## Signals and waits -/

section Talk

variable (X : Dev nD → Vec F S4096x512 .f32) (Wt : Dev nD → Vec F S512x8192 .f32) (K : Dev nD × CK → ℕ)
variable (c : Dev nD) {Q : Post F}

/-- A wait for the whole of a round of the cell `k`: what was handed over comes with it. -/
theorem wp_waitC (k : CK) (R n : ℕ) (hR : R < 6) (hn : (Rd X Wt).expect (cell c k) R = n) (l : List Ent) (hl : After (rank k R) l)
    {w : TpuEff nD τ sig (Elt F) Λ₀ .tc PUnit} (hw : ∀ Kt : PUnit → sProp 𝕄, wpE (defs₀ (F := F)) 𝒱₀ (c : Thread nD τ) none Set.univ w Kt
      = waitSpec (c : Thread nD τ) Set.univ (csem k) n Kt) (kont : PUnit → P F) :
    iprop(records X Wt K ∗ levAts L lv ∗ cred (tallyAt (cell c k) R n) ∗ ow c l ∗ atPos ER (cell c k) R ∅ 0)
      ⊢ iprop(((ow c l ∗ atPos ER (cell c k) (R + 1) ∅ 0 ∗ reached ER (cell c k) (R + 1)
            ∗ bigSep ((Rd X Wt).duties (cell c k) R \ ∅) (fun j => (Rd X Wt).payload (cell c k) R j)) -∗ wpP c (kont ⟨⟩) Q)
          -∗ wpP c (.op w kont) Q) := by
  unfold ow
  iintro ⟨#HR, #Hlev, Hc, ⟨%W, Ho⟩, Hat⟩ Hk
  iapply (Rounds.wp_wait_rest_token 𝒱₀ ER (Rd X Wt) (c : Thread nD τ) none (κ := K (c, k)) hw (Set.mem_univ _) R (O := owed c l) (W := W) (R := R) (m := 0) (T := ∅)
    (by rw [Nat.zero_add]; exact hn.symm)) $$ [Hc Ho Hat]
  · isplitr; · iapply (inv_at X Wt K c k); iexact HR
    isplitl [Hc]; · iexact Hc
    isplitl [Ho]; · iexact Ho
    isplitr; · iapply (mayWait c (csem k) R hR l (by rw [lv_cell]; exact hl)); iexact Hlev
    iexact Hat
  iintro ⟨Ho, Hat, Hr, Hp⟩
  iapply Hk
  isplitl [Ho]; · iexists _; iexact Ho
  isplitl [Hat]; · iexact Hat
  isplitl [Hr] <;> iassumption

/-- A cell with no rounds left to come closes at zero. -/
theorem close (k : CK) (R : ℕ) (h : ∀ r, R ≤ r → dutiesK k r = ∅) :
    iprop(records X Wt K ∗ atPos ER (cell c k) R ∅ 0) ⊢ (|={Set.univ}=> zero c k : sProp 𝕄) := by
  iintro ⟨#HR, Hat⟩
  iapply (Rounds.cell_close ER (Rd X Wt) (Set.mem_univ (K (c, k))) (fun h => h) (R := R) (fun r hr => by rw [duties_eq]; exact h r hr))
  isplitr; · iapply (inv_at X Wt K c k); iexact HR
  iexact Hat

/-- A wait for the only round of a transfer's cell, which then closes. -/
theorem wp_waitD (k : CK) (hk : amt k = N) (hd : ∀ r, dutiesK k r = if r = 0 then {0} else ∅) (l : List Ent) (hl : After (rank k 0) l)
    {w : TpuEff nD τ sig (Elt F) Λ₀ .tc PUnit} (hw : ∀ Kt : PUnit → sProp 𝕄, wpE (defs₀ (F := F)) 𝒱₀ (c : Thread nD τ) none Set.univ w Kt
      = waitSpec (c : Thread nD τ) Set.univ (csem k) N Kt) (kont : PUnit → P F) :
    iprop(records X Wt K ∗ levAts L lv ∗ crd c (k, 0, 0) ∗ ow c l ∗ pos0 c k)
      ⊢ iprop(((ow c l ∗ zero c k ∗ payK X Wt c k 0 0) -∗ wpP c (kont ⟨⟩) Q) -∗ wpP c (.op w kont) Q) := by
  have h0 : dutiesK k 0 = {0} := by rw [hd, if_pos rfl]
  unfold crd pos0
  iintro ⟨#HR, #Hlev, Hc, Ho, Hat⟩ Hk
  rw [hk]
  iapply (wp_waitC X Wt K c k 0 N (by decide) ((expect_one X Wt c h0).trans hk) l hl hw kont) $$ [Hc Ho Hat]
  · isplitr; · iexact HR
    isplitr; · iexact Hlev
    isplitl [Hc]; · iexact Hc
    isplitl [Ho] <;> iassumption
  iintro ⟨Ho, Hat, -, Hp⟩
  ihave Hp := (Entails.of_eq (rest_one X Wt c h0)) $$ Hp
  imod (close X Wt K c k 1 (fun r hr => by rw [hd, if_neg (by omega)])) $$ [Hat] with Hz
  · isplitr; · iexact HR
    iexact Hat
  iapply Hk
  isplitl [Ho]; · iexact Ho
  isplitl [Hz] <;> iassumption

/-- A signal to cell `k` along `j`. -/
theorem wp_sig (k : CK) (q : Sem sig) (hq : csem k = .reg q) (hk : amt k = 1) (j : Fin 2) (r : ℕ) (hj : j ∈ dutiesK k r) (n : Dev nD) (hn : n = payE k j c)
    (l : List Ent) (kont : P F) :
    iprop(records X Wt K ∗ reached ER (cell n k) r ∗ ow c ((k, j, r) :: l) ∗ duty c (k, j, r) ∗ payK X Wt n k r j)
      ⊢ iprop((ow c l -∗ wpP c kont Q) -∗ wpP c (sig1 n q kont) Q) := by
  subst hn
  unfold ow duty
  iintro ⟨#HR, #Hr, ⟨%W, Ho⟩, Ht, Hp⟩ Hk
  have he : cell (payE k j c) k = ((payE k j c : Thread nD τ), .reg q) := by rw [← hq]
  iapply (Rounds.wp_signal 𝒱₀ ER (Rd X Wt) (c : Thread nD τ) none (dst := ((payE k j c : Dev nD) : Thread nD τ)) (κ := K (payE k j c, k)) (sem := q)
      (r := r) (d := j) (by rw [← he, duties_eq]; exact hj) (by rw [← he, amount_eq]; exact hk) r (owed c l) (O₀ := owed c ((k, j, r) :: l)) (W := W)
      (by show owed c l + due c (k, j, r) = _; unfold due; dsimp only; rw [he, hk])) $$ [Ho Ht Hp]
  · isplitr; · rw [← he]; iapply (inv_at X Wt K (payE k j c) k); iexact HR
    isplitl [Ho]; · iexact Ho
    isplitl [Ht]; · rw [← he]; iexact Ht
    isplitl [Hp]; · rw [← he, payload_eq]; iexact Hp
    rw [← he]; iexact Hr
  iintro Ho
  iapply Hk
  iexists W; iexact Ho

/-! ## Transfers -/

theorem credit_slot (M : Memref sig .tc .vmem S2x4096x512 .f32) (d : Fin 2) (g : Fin 4) : (slot M d g).view.dmaCredit = N := rfl
theorem credit_out (o : Fin 2 → ℕ) (h : ∀ a, o a + S1024x512.size a ≤ S4096x8192.size a) : (out o h).view.dmaCredit = N := rfl

/-- What is held at contents that read `V` is owned at `V`. -/
theorem owns_of (n : Dev nD) {sp : Space} (m : Memref sig .tc sp S1024x512 .f32) (q : PosShare TreeShare) (V : Vec F S1024x512 .f32)
    (f : Buf (Elt F) (m.view.loc (n : Thread nD τ))) (h : m.view.read (Elt F) f = V) :
    (m.view.loc (n : Thread nD τ) ↦[m.view.set]{q} f : sProp 𝕄) ⊢ owns (n : Thread nD τ) m q V := by
  unfold owns
  iintro H
  iexists f
  isplitr; · ipureintro; exact h
  iexact H

/-- A transfer of `m₁` on `c` into `m₂` on `n`, which read pays the cell `kS` of `c` and landed the cell `kR` of `n`. -/
theorem wp_sendG (kS kR : CK) (qS qR : DmaSem sig) (hS : csem kS = .dma qS) (hR : csem kR = .dma qR) (aS : amt kS = N) (aR : amt kR = N)
    (dS : (0 : Fin 2) ∈ dutiesK kS 0) (dR : (0 : Fin 2) ∈ dutiesK kR 0) (n : Dev nD) (nS : payE kS 0 c = c) (nR : n = payE kR 0 c)
    {sp sp' : Space} (m₁ : Memref sig .tc sp S1024x512 .f32) (m₂ : Memref sig .tc sp' S1024x512 .f32) (hN : m₂.view.dmaCredit = N)
    {hsc : m₂.view.ref.isScScratch = false} {hsrc : m₁.view.WordExact} {hdst : m₂.view.WordExact}
    {hsem : DmaTarget.Typed sp (.dma qR) (.remote (Dev.tc n : Thread nD τ) m₂ (.dma qS) hsc)}
    (q : PosShare TreeShare) (V : Vec F S1024x512 .f32) (Fr : sProp 𝕄)
    (hp₁ : owns (c : Thread nD τ) m₁ q V ⊢ payK X Wt c kS 0 0) (hp₂ : iprop(own n m₂ V ∗ Fr) ⊢ payK X Wt n kR 0 0)
    (l : List Ent) (kont : PUnit → P F) :
    iprop(records X Wt K ∗ owns (c : Thread nD τ) m₁ q V ∗ any n m₂ ∗ Fr ∗ ow c ((kR, 0, 0) :: l) ∗ duty c (kS, 0, 0) ∗ duty c (kR, 0, 0))
      ⊢ iprop(((crd c (kS, 0, 0) ∗ ow c l) -∗ wpP c (kont ⟨⟩) Q)
          -∗ wpP c (.op (.enqueueDma m₁ (.remote (Dev.tc n : Thread nD τ) m₂ (.dma qS) hsc) (.dma qR) hsrc hdst hsem) kont) Q) := by
  subst nR
  have eS : cell c kS = ((c : Thread nD τ), .dma qS) := by rw [← hS]
  have eR : cell (payE kR 0 c) kR = ((payE kR 0 c : Thread nD τ), .dma qR) := by rw [← hR]
  unfold ow duty crd any own
  dsimp only
  rw [nS]
  have q₁ (f : Buf (Elt F) (m₁.view.loc (c : Thread nD τ))) (h : m₁.view.read (Elt F) f = V) :
      (m₁.view.loc (c : Thread nD τ) ↦[m₁.view.set]{q} f : sProp 𝕄) ⊢ payK X Wt c kS 0 0 := (owns_of c m₁ q V f h).trans hp₁
  have q₂ (f : Buf (Elt F) (m₂.view.loc ((payE kR 0 c : Dev nD) : Thread nD τ))) (h : m₂.view.read (Elt F) f = V) :
      iprop((m₂.view.loc ((payE kR 0 c : Dev nD) : Thread nD τ) ↦[m₂.view.set]{fullShare} f) ∗ Fr) ⊢ payK X Wt (payE kR 0 c) kR 0 0 :=
    (sep_mono_left (owns_of (payE kR 0 c) m₂ fullShare V f h)).trans hp₂
  unfold owns
  iintro ⟨#HR, ⟨%fs, %hfs, Hs⟩, ⟨%V', %fd, %hfd, Hd⟩, HF, ⟨%W, Ho⟩, Ht₁, Ht₂⟩ Hk
  iapply (Rounds.wp_send_pointsTo_with 𝒱₀ ER (Rd X Wt) (c : Thread nD τ) none (c' := ((payE kR 0 c : Dev nD) : Thread nD τ)) (src := m₁) (dst := m₂)
      (κ₁ := K (c, kS)) (κ₂ := K (payE kR 0 c, kR)) (sS := .dma qS) (sem := .dma qR) (q := q) (fs := fs) (fd := fd) (F := Fr)
      (r₁ := 0) (r₂ := 0) (d₁ := 0) (d₂ := 0)
      (by rw [← eS, duties_eq]; exact dS) (by rw [← eR, duties_eq]; exact dR)
      0 0 N hN (by rw [← eS, amount_eq]; exact aS) (by rw [← eR, amount_eq]; exact aR) (owed c l) (O₀ := owed c ((kR, 0, 0) :: l)) (W := W)
      (by show owed c l + due c (kR, 0, 0) = _; unfold due; dsimp only; rw [eR, aR])
      (by rw [← eS, payload_eq]; exact q₁ fs hfs)
      (by rw [← eR, payload_eq]; exact q₂ _ ((View.read_write_univ _ _).trans hfs))) $$ [Hs Hd HF Ho Ht₁ Ht₂]
  · isplitr; · rw [← eS]; iapply (inv_at X Wt K c kS); iexact HR
    isplitr; · rw [← eR]; iapply (inv_at X Wt K (payE kR 0 c) kR); iexact HR
    isplitl [Hs]; · iexact Hs
    isplitl [Hd HF]; · isplitl [Hd] <;> iassumption
    isplitl [Ho]; · iexact Ho
    isplitl [Ht₁]; · rw [← eS]; iexact Ht₁
    isplitr; · rw [← eS]; iapply (reached_at X Wt K c kS); iexact HR
    isplitl [Ht₂]; · rw [← eR]; iexact Ht₂
    rw [← eR]; iapply (reached_at X Wt K (payE kR 0 c) kR); iexact HR
  iintro ⟨Hc, Ho⟩
  iapply Hk
  isplitl [Hc]; · rw [eS, aS]; iexact Hc
  iexists W; iexact Ho

/-! ## The waits of a lane -/

/-- `wp_waitD` for a wait on the semaphore `q`. -/
theorem wp_waitQ (k : CK) (q : DmaSem sig) (hq : csem k = .dma q) (hk : amt k = N) (hd : ∀ r, dutiesK k r = if r = 0 then {0} else ∅) (l : List Ent)
    (hl : After (rank k 0) l) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (.dma q) N Kt) (kont : P F) :
    iprop(records X Wt K ∗ levAts L lv ∗ crd c (k, 0, 0) ∗ ow c l ∗ pos0 c k)
      ⊢ iprop(((ow c l ∗ zero c k ∗ payK X Wt c k 0 0) -∗ wpP c kont Q) -∗ wpP c (.op w fun _ => kont) Q) :=
  wp_waitD X Wt K c k hk hd l hl (by rw [hq]; exact hw) fun _ => kont

theorem wp_waitRS (d : Fin 2) (s : Fin 7) (g : Fin 4) (l : List Ent) (hl : After (rank (rsS d g s) 0) l) (kont : P F) :
    iprop(records X Wt K ∗ levAts L lv ∗ crd c (rsS d g s, 0, 0) ∗ ow c l ∗ pos0 c (rsS d g s))
      ⊢ iprop(((ow c l ∗ zero c (rsS d g s) ∗ payK X Wt c (rsS d g s) 0 0) -∗ wpP c kont Q) -∗ wpP c (waitRS d s g kont) Q) :=
  wp_waitQ X Wt K c (rsS d g s) (semT cc0_scratch2 d s g) rfl rfl (fun _ => rfl) l hl
    (by exact fun Kt => congrArg (fun n => waitSpec (c : Thread nD τ) Set.univ (.dma (semT cc0_scratch2 d s g)) n Kt) (credit_slot aM d g)) kont

theorem wp_waitRR (d : Fin 2) (s : Fin 7) (g : Fin 4) (l : List Ent) (hl : After (rank (rsR d g s) 0) l) (kont : P F) :
    iprop(records X Wt K ∗ levAts L lv ∗ crd c (rsR d g s, 0, 0) ∗ ow c l ∗ pos0 c (rsR d g s))
      ⊢ iprop(((ow c l ∗ zero c (rsR d g s) ∗ payK X Wt c (rsR d g s) 0 0) -∗ wpP c kont Q) -∗ wpP c (waitRR d s g kont) Q) :=
  wp_waitQ X Wt K c (rsR d g s) (semT cc0_scratch3 d s g) rfl rfl (fun _ => rfl) l hl
    (by exact fun Kt => congrArg (fun n => waitSpec (c : Thread nD τ) Set.univ (.dma (semT cc0_scratch3 d s g)) n Kt) (credit_slot rM d g)) kont

theorem wp_waitAO (k : CK) (q : DmaSem sig) (hq : csem k = .dma q) (hk : amt k = N) (hd : ∀ r, dutiesK k r = if r = 0 then {0} else ∅) (d : Fin 2) (g : Fin 4)
    (o : Fin 2 → ℕ) (h : ∀ a, o a + S1024x512.size a ≤ S4096x8192.size a) (l : List Ent) (hl : After (rank k 0) l) (kont : P F) :
    iprop(records X Wt K ∗ levAts L lv ∗ crd c (k, 0, 0) ∗ ow c l ∗ pos0 c k)
      ⊢ iprop(((ow c l ∗ zero c k ∗ payK X Wt c k 0 0) -∗ wpP c kont Q) -∗ wpP c (waitAO q d g o h kont) Q) :=
  wp_waitQ X Wt K c k q hq hk hd l hl (by exact fun Kt => congrArg (fun n => waitSpec (c : Thread nD τ) Set.univ (.dma q) n Kt) (credit_out o h)) kont

theorem wp_waitOA (k : CK) (q : DmaSem sig) (hq : csem k = .dma q) (hk : amt k = N) (hd : ∀ r, dutiesK k r = if r = 0 then {0} else ∅) (d : Fin 2) (g : Fin 4)
    (o : Fin 2 → ℕ) (h : ∀ a, o a + S1024x512.size a ≤ S4096x8192.size a) (l : List Ent) (hl : After (rank k 0) l) (kont : P F) :
    iprop(records X Wt K ∗ levAts L lv ∗ crd c (k, 0, 0) ∗ ow c l ∗ pos0 c k)
      ⊢ iprop(((ow c l ∗ zero c k ∗ payK X Wt c k 0 0) -∗ wpP c kont Q) -∗ wpP c (waitOA q d g o h kont) Q) :=
  wp_waitQ X Wt K c k q hq hk hd l hl (by exact fun Kt => congrArg (fun n => waitSpec (c : Thread nD τ) Set.univ (.dma q) n Kt) (credit_slot aM d g)) kont

theorem wp_waitOO (k : CK) (q : DmaSem sig) (hq : csem k = .dma q) (hk : amt k = N) (hd : ∀ r, dutiesK k r = if r = 0 then {0} else ∅)
    (o : Fin 2 → ℕ) (h : ∀ a, o a + S1024x512.size a ≤ S4096x8192.size a) (l : List Ent) (hl : After (rank k 0) l) (kont : P F) :
    iprop(records X Wt K ∗ levAts L lv ∗ crd c (k, 0, 0) ∗ ow c l ∗ pos0 c k)
      ⊢ iprop(((ow c l ∗ zero c k ∗ payK X Wt c k 0 0) -∗ wpP c kont Q) -∗ wpP c (waitOO q o h kont) Q) :=
  wp_waitQ X Wt K c k q hq hk hd l hl (by exact fun Kt => congrArg (fun n => waitSpec (c : Thread nD τ) Set.univ (.dma q) n Kt) (credit_out o h)) kont

end Talk

end Cert.RingProof

end
-- ==== Proof.LaneStep.lean ====
/-
# One step of a lane

What a lane holds between its steps, and that each step takes it from one such state to the next, paying what it owes.
-/
module

public import proofs.«01_k».proof.Proof.Ops
public import Idealize.ShloMosaic.Lib.MemrefSat

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What each step uses -/

/-- The step after. -/
def next : Step → Option Step
  | .first => some (.send 0)
  | .send s => some (.add s)
  | .add s => if h : s.val < 6 then some (.free ⟨s.val, h⟩) else some .done
  | .free s => some (.send s.succ)
  | .done => some (.pass 0)
  | .pass t => if h : t.val + 1 < 6 then some (.pass ⟨t.val + 1, h⟩) else some .last
  | .last => none

/-- The payments a step makes, -/
def toksOf (d : Fin 2) (g : Fin 4) : Step → List Ent
  | .send s => [(rsS d g s, 0, 0), (rsR d g s, 0, 0)]
  | .free s => [(.cr d g, 0, s.val)]
  | .done => [(.cp d g, 0, 0), (agS d g 0, 0, 0), (agR d g 0, 0, 0)]
  | .pass t => [(agS d g t.succ, 0, 0), (agR d g t.succ, 0, 0)]
  | _ => []
/-- those of them it owes, -/
def paysOf (d : Fin 2) (g : Fin 4) : Step → List Ent
  | .send s => [(rsR d g s, 0, 0)]
  | .free s => [(.cr d g, 0, s.val)]
  | .done => [(agR d g 0, 0, 0)]
  | .pass t => [(agR d g t.succ, 0, 0)]
  | _ => []
/-- the payments by others it waits for, -/
def credsOf (d : Fin 2) (g : Fin 4) : Step → List Ent
  | .add s => [(rsR d g s, 0, 0)]
  | .free s => [(.cr d g, 0, s.val)]
  | .pass t => [(agR d g t.castSucc, 0, 0)]
  | .last => [(agR d g 6, 0, 0)]
  | _ => []
/-- the cells it is done with, -/
def posOf (d : Fin 2) (g : Fin 4) : Step → List CK
  | .add s => [rsS d g s, rsR d g s]
  | .pass t => [agR d g t.castSucc]
  | .last => [agR d g 6, agS d g 0, agS d g 1, agS d g 2, agS d g 3, agS d g 4, agS d g 5, agS d g 6, .cp d g]
  | _ => []
/-- and the place in the order of what it waits for. -/
def placeOf (d : Fin 2) (g : Fin 4) : Step → ℕ
  | .add s => rank (rsR d g s) 0
  | .free s => rank (.cr d g) s.val
  | .pass t => rank (agR d g t.castSucc) 0
  | .last => rank (agR d g 6) 0
  | _ => 0

theorem After.mono {m n : ℕ} (h : m ≤ n) {l : List Ent} (a : After n l) : After m l := fun e he => ⟨(a e he).1, lt_of_le_of_lt h (a e he).2⟩
theorem After.zero {n : ℕ} {l : List Ent} (a : After n l) : After 0 l := a.mono (Nat.zero_le n)

/-! ## A lane's states -/

section Lane

variable (X : Dev nD → Vec F S4096x512 .f32) (Wt : Dev nD → Vec F S512x8192 .f32)
variable (c : Dev nD) (d : Fin 2) (g : Fin 4)

/-- The reads of blocks a lane has under way. -/
def flight : ℕ → sProp 𝕄
  | 0 => iprop(emp)
  | n + 1 => iprop(crd c (agS d g (Fin.ofNat 7 n), 0, 0) ∗ flight n)

/-- The parts of the results a lane has not written. -/
def unw : sProp 𝕄 := iprop(any c (outB d g c) ∗ outs d g c 7)

abbrev crAt (n : ℕ) : sProp 𝕄 := atPos ER (cell c (.cr d g)) n ∅ 0

def sendSt (n : ℕ) : sProp 𝕄 :=
  iprop(own c (slot aM d g) (accV X Wt d g n c) ∗ any (tgt d c) (slot rM d g) ∗ unw c d g ∗ crAt c d g n ∗ reached ER (cell c (.cr d g)) n)
def addSt (s : Fin 7) : sProp 𝕄 := iprop(crd c (rsS d g s, 0, 0) ∗ unw c d g ∗ crAt c d g s.val)
def aftSt (n : ℕ) : sProp 𝕄 :=
  iprop(own c (slot aM d g) (accV X Wt d g (n + 1) c) ∗ any c (slot rM d g) ∗ unw c d g ∗ crAt c d g n ∗ reached ER (cell (ups d c) (.cr d g)) n)
def passSt (n : ℕ) : sProp 𝕄 :=
  iprop(any c (slot rM d g) ∗ crd c (.cp d g, 0, 0) ∗ flight c d g (n + 1) ∗ outs d g c (6 - n) ∗ crAt c d g 6)
def firstSt : sProp 𝕄 := iprop(any c (slot aM d g) ∗ any (tgt d c) (slot rM d g) ∗ unw c d g ∗ crAt c d g 0)
def endSt : sProp 𝕄 :=
  iprop(any c (slot rM d g) ∗ any c (slot aM d g) ∗ bigSepL [0, 1, 2, 3, 4, 5, 6, 7] (fun u => blk X Wt d g c (back d u c)) ∗ zero c (.cr d g))

/-- What a lane holds before a step. -/
def Mem : Option Step → sProp 𝕄
  | some .first => firstSt c d g
  | some (.send s) => sendSt X Wt c d g s.val
  | some (.add s) => addSt c d g s
  | some (.free s) => aftSt X Wt c d g s.val
  | some .done => aftSt X Wt c d g 6
  | some (.pass t) => passSt c d g t.val
  | some .last => passSt c d g 6
  | none => endSt X Wt c d g

/-- The tokens, credits and positions a step uses. -/
def Gh (st : Step) : sProp 𝕄 :=
  iprop(bigSepL (toksOf d g st) (duty c) ∗ bigSepL (credsOf d g st) (crd c) ∗ bigSepL (posOf d g st) (pos0 c))

/-- The two staged inputs. -/
def stg : sProp 𝕄 :=
  iprop((((c : Thread nD τ).loc cc0_stg0_0) ↦{fullShare} X c) ∗ (((c : Thread nD τ).loc cc0_stg1_0) ↦{fullShare} Wt c))

theorem mem_add (s : Fin 7) : Mem X Wt c d g (next (.add s)) = aftSt X Wt c d g s.val := by fin_cases s <;> rfl
theorem mem_pass (t : Fin 6) : Mem X Wt c d g (next (.pass t)) = passSt c d g (t.val + 1) := by fin_cases t <;> rfl

variable (K : Dev nD × CK → ℕ)

/-- A step takes a lane from its state before to its state after. -/
def StepOk (st : Step) : Prop := ∀ (l : List Ent) (hl : After (placeOf d g st) l) (Q : Post F) (k : P F),
  iprop(records X Wt K ∗ levAts L lv ∗ stg X Wt c ∗ Mem X Wt c d g (some st) ∗ Gh c d g st ∗ ow c (paysOf d g st ++ l))
    ⊢ iprop(((stg X Wt c ∗ Mem X Wt c d g (next st) ∗ bigSepL (posOf d g st) (zero c) ∗ ow c l) -∗ wpP c k Q)
        -∗ wpP c (stepR c d g st k) Q)

theorem step_first : StepOk X Wt c d g K .first := fun l hl Q k => by
  show iprop(records X Wt K ∗ levAts L lv ∗ stg X Wt c ∗ firstSt c d g ∗ Gh c d g .first ∗ ow c l)
    ⊢ iprop(((stg X Wt c ∗ sendSt X Wt c d g 0 ∗ emp ∗ ow c l) -∗ wpP c k Q)
        -∗ wpP c (ldX g fun x => ldW (wOff d c) (wInb d c) fun w => ldL aM d g fun _ => stA d g (pay0 x w) k) Q)
  unfold stg firstSt
  iintro ⟨#HR, -, ⟨Hx, Hw⟩, ⟨⟨%V0, Ha⟩, Hr, Hu, Hat⟩, -, Ho⟩ Hk
  iapply (wp_ldX c g (X c) _) $$ Hx; iintro Hx
  iapply (wp_ldW c (wOff d c) (wInb d c) (Wt c) _) $$ Hw; iintro Hw
  iapply (wp_ldL c aM d g V0 _) $$ Ha; iintro %r %hr Ha
  iapply (wp_stA c d g (accV X Wt d g 0 c) k) $$ [Ha]
  · iexists V0; iexact Ha
  iintro Ha
  iapply Hk
  isplitl [Hx Hw]; · isplitl [Hx] <;> iassumption
  isplitl [Ha Hr Hu Hat]
  · unfold sendSt
    isplitl [Ha]; · iexact Ha
    isplitl [Hr]; · iexact Hr
    isplitl [Hu]; · iexact Hu
    isplitl [Hat]; · iexact Hat
    iapply (reached_at X Wt K c (.cr d g)); iexact HR
  isplitr; · iempintro
  iexact Ho

theorem step_send (s : Fin 7) : StepOk X Wt c d g K (.send s) := fun l hl Q k => by
  show iprop(records X Wt K ∗ levAts L lv ∗ stg X Wt c ∗ sendSt X Wt c d g s.val
        ∗ ((duty c (rsS d g s, 0, 0) ∗ duty c (rsR d g s, 0, 0)) ∗ emp ∗ emp) ∗ ow c ((rsR d g s, 0, 0) :: l))
    ⊢ iprop(((stg X Wt c ∗ addSt c d g s ∗ emp ∗ ow c l) -∗ wpP c k Q) -∗ wpP c (sendR d s g (tgt d c) k) Q)
  unfold sendSt
  iintro ⟨#HR, -, Hs, ⟨Ha, Hr, Hu, Hat, #Hre⟩, ⟨⟨Ht₁, Ht₂⟩, -, -⟩, Ho⟩ Hk
  iapply (wp_sendG X Wt K c (rsS d g s) (rsR d g s) _ _ rfl rfl rfl rfl (Finset.mem_singleton_self _) (Finset.mem_singleton_self _) (tgt d c) rfl rfl
      (slot aM d g) (slot rM d g) (credit_slot rM d g) fullShare (accV X Wt d g s.val c) (reached ER (cell c (.cr d g)) s.val)
      .rfl (by
        show _ ⊢ iprop(own (tgt d c) (slot rM d g) (accV X Wt d g s.val (ups d (tgt d c))) ∗ reached ER (cell (ups d (tgt d c)) (.cr d g)) s.val)
        rw [ups_tgt]) l (fun _ => k)) $$ [Ha Hr Ht₁ Ht₂ Ho]
  · isplitr; · iexact HR
    isplitl [Ha]; · iexact Ha
    isplitl [Hr]; · iexact Hr
    isplitr; · iexact Hre
    isplitl [Ho]; · iexact Ho
    isplitl [Ht₁] <;> iassumption
  iintro ⟨Hc, Ho⟩
  iapply Hk
  isplitl [Hs]; · iexact Hs
  isplitl [Hc Hu Hat]
  · unfold addSt
    isplitl [Hc]; · iexact Hc
    isplitl [Hu] <;> iassumption
  isplitr; · iempintro
  iexact Ho

set_option maxHeartbeats 2000000 in
theorem step_add (s : Fin 7) : StepOk X Wt c d g K (.add s) := fun l hl Q k => by
  rw [mem_add]
  show iprop(records X Wt K ∗ levAts L lv ∗ stg X Wt c ∗ addSt c d g s
        ∗ (emp ∗ crd c (rsR d g s, 0, 0) ∗ (pos0 c (rsS d g s) ∗ pos0 c (rsR d g s))) ∗ ow c l)
    ⊢ iprop(((stg X Wt c ∗ aftSt X Wt c d g s.val ∗ (zero c (rsS d g s) ∗ zero c (rsR d g s)) ∗ ow c l) -∗ wpP c k Q)
        -∗ wpP c (waitRS d s g <| waitRR d s g <| ldL rM d g fun r => ldX g fun x =>
      ldW (wOff d (back d (s.val + 1) c)) (wInb d _) fun w => ldL aM d g fun _ => stA d g (pay1 r x w) k) Q)
  unfold stg addSt
  iintro ⟨#HR, #Hlev, ⟨Hx, Hw⟩, ⟨Hc, Hu, Hat⟩, ⟨-, Hc', Hp, Hp'⟩, Ho⟩ Hk
  iapply (wp_waitRS X Wt K c d s g l hl.zero _) $$ [Hc Hp Ho]
  · isplitr; · iexact HR
    isplitr; · iexact Hlev
    isplitl [Hc]; · iexact Hc
    isplitl [Ho] <;> iassumption
  iintro ⟨Ho, Hz, Ha⟩
  iapply (wp_waitRR X Wt K c d s g l hl _) $$ [Hc' Hp' Ho]
  · isplitr; · iexact HR
    isplitr; · iexact Hlev
    isplitl [Hc']; · iexact Hc'
    isplitl [Ho] <;> iassumption
  iintro ⟨Ho, Hz', Hr⟩
  ihave Ha := (show payK X Wt c (rsS d g s) 0 0 ⊢ own c (slot aM d g) (accV X Wt d g s.val c) from .rfl) $$ Ha
  ihave Hr := (show payK X Wt c (rsR d g s) 0 0 ⊢ iprop(own c (slot rM d g) (accV X Wt d g s.val (ups d c)) ∗ reached ER (cell (ups d c) (.cr d g)) s.val) from .rfl) $$ Hr
  icases Hr with ⟨Hr, #Hre⟩
  iapply (wp_ldL c rM d g _ _) $$ Hr; iintro %r %hr Hr
  iapply (wp_ldX c g (X c) _) $$ Hx; iintro Hx
  iapply (wp_ldW c (wOff d (back d (s.val + 1) c)) (wInb d _) (Wt c) _) $$ Hw; iintro Hw
  iapply (wp_ldL c aM d g _ _) $$ Ha; iintro %r' %hr' Ha
  unfold pay1
  rw [hr]
  iapply (wp_stA c d g (accV X Wt d g (s.val + 1) c) k) $$ [Ha]
  · iexists _; iexact Ha
  iintro Ha
  iapply Hk
  isplitl [Hx Hw]; · isplitl [Hx] <;> iassumption
  isplitl [Ha Hr Hu Hat]
  · unfold aftSt
    isplitl [Ha]; · iexact Ha
    isplitl [Hr]; · iexists _; iexact Hr
    isplitl [Hu]; · iexact Hu
    isplitl [Hat]; · iexact Hat
    iexact Hre
  isplitl [Hz Hz']; · isplitl [Hz] <;> iassumption
  iexact Ho

theorem step_free (s : Fin 6) : StepOk X Wt c d g K (.free s) := fun l hl Q k => by
  show iprop(records X Wt K ∗ levAts L lv ∗ stg X Wt c ∗ aftSt X Wt c d g s.val
        ∗ (duty c (.cr d g, 0, s.val) ∗ crd c (.cr d g, 0, s.val) ∗ emp) ∗ ow c ((.cr d g, 0, s.val) :: l))
    ⊢ iprop(((stg X Wt c ∗ sendSt X Wt c d g (s.val + 1) ∗ emp ∗ ow c l) -∗ wpP c k Q)
        -∗ wpP c (sig1 (ups d c) (semK d g) <| waitS (semK d g) 1 k) Q)
  have hd : dutiesK (.cr d g) s.val = {0} := if_pos s.isLt
  unfold aftSt
  iintro ⟨#HR, #Hlev, Hs, ⟨Ha, Hr, Hu, Hat, #Hre⟩, ⟨Ht, Hc, -⟩, Ho⟩ Hk
  iapply (wp_sig X Wt K c (.cr d g) (semK d g) rfl rfl 0 s.val (by rw [hd]; exact Finset.mem_singleton_self _) (ups d c) rfl l _) $$ [Hr Ht Ho]
  · isplitr; · iexact HR
    isplitr; · iexact Hre
    isplitl [Ho]; · iexact Ho
    isplitl [Ht]; · iexact Ht
    iapply (show any c (slot rM d g) ⊢ payK X Wt (ups d c) (.cr d g) s.val 0 from by
      show _ ⊢ any (tgt d (ups d c)) (slot rM d g)
      rw [tgt_ups])
    iexact Hr
  iintro Ho
  iapply (wp_waitC X Wt K c (.cr d g) s.val 1 s.isLt (expect_one X Wt c hd) l hl (wpE_semWait_eq 𝒱₀ (c : Thread nD τ) none Set.univ) (fun _ => k)) $$ [Hc Hat Ho]
  · isplitr; · iexact HR
    isplitr; · iexact Hlev
    isplitl [Hc]; · iapply (show crd c (.cr d g, 0, s.val) ⊢ cred (tallyAt (cell c (.cr d g)) s.val 1) from .rfl); iexact Hc
    isplitl [Ho] <;> iassumption
  iintro ⟨Ho, Hat, Hr', Hp⟩
  ihave Hp := (Entails.of_eq (rest_one X Wt c hd)) $$ Hp
  ihave Hp := (show payK X Wt c (.cr d g) s.val 0 ⊢ any (tgt d c) (slot rM d g) from .rfl) $$ Hp
  iapply Hk
  isplitl [Hs]; · iexact Hs
  isplitl [Ha Hp Hu Hat Hr']
  · unfold sendSt
    isplitl [Ha]; · iexact Ha
    isplitl [Hp]; · iexact Hp
    isplitl [Hu]; · iexact Hu
    isplitl [Hat]; · iexact Hat
    iexact Hr'
  isplitr; · iempintro
  iexact Ho

/-- A wait for a local cell's credit that opens its payload. -/
theorem ofNat_succ (t : Fin 6) : (Fin.ofNat 7 (t.val + 1) : Fin 7) = t.succ := by fin_cases t <;> rfl

/-- The copy of half of an accumulator's share into the device's own result. -/
theorem wp_copyL (Q : Post F) (k : P F) :
    iprop(records X Wt K ∗ owns (c : Thread nD τ) (slot aM d g) fullShare.left (finV X Wt d g c) ∗ any c (outB d g c) ∗ duty c (.cp d g, 0, 0))
      ⊢ iprop((crd c (.cp d g, 0, 0) -∗ wpP c k Q) -∗ wpP c (copyL d g (oOff d g c) (oInb d g c) k) Q) := by
  have q₁ (fs : Buf (Elt F) ((slot aM d g).view.loc (c : Thread nD τ))) (hfs : (slot aM d g).view.read (Elt F) fs = finV X Wt d g c)
      (fd : Buf (Elt F) ((outB d g c).view.loc (c : Thread nD τ))) (hfd : (outB d g c).view.read (Elt F) fd = finV X Wt d g c) :
      iprop(((outB d g c).view.loc (c : Thread nD τ) ↦[(outB d g c).view.set]{fullShare} fd)
          ∗ ((slot aM d g).view.loc (c : Thread nD τ) ↦[(slot aM d g).view.set]{fullShare.left} fs)) ⊢ payK X Wt c (.cp d g) 0 0 :=
    BI.sep_mono (owns_of c (outB d g c) fullShare _ fd hfd) (owns_of c (slot aM d g) fullShare.left _ fs hfs)
  unfold any own owns duty crd
  iintro ⟨#HR, ⟨%fs, %hfs, Hs⟩, ⟨%V', %fd, %hfd, Hd⟩, Ht⟩ Hk
  iapply (Rounds.wp_copy_pointsTo 𝒱₀ ER (Rd X Wt) (c : Thread nD τ) none (src := slot aM d g) (dst := outB d g c) (sem := .dma (semL d g)) (κ := K (c, .cp d g)) (q := fullShare.left)
      (fs := fs) (fd := fd) (r := 0) (d := 0) (by rw [show ((c : Thread nD τ), SemLoc.dma (semL d g)) = cell c (.cp d g) from rfl, duties_eq]; exact Finset.mem_singleton_self _)
      0 N (credit_out _ _) (amount_eq X Wt c (.cp d g) 0 0)
      (by
        rw [show ((c : Thread nD τ), SemLoc.dma (semL d g)) = cell c (.cp d g) from rfl, payload_eq]
        exact q₁ fs hfs _ ((View.read_write_univ _ _).trans hfs))) $$ [Hs Hd Ht]
  · isplitr; · iapply (inv_at X Wt K c (.cp d g)); iexact HR
    isplitl [Hs]; · iexact Hs
    isplitl [Hd]; · iexact Hd
    isplitl [Ht]; · iexact Ht
    iapply (reached_at X Wt K c (.cp d g)); iexact HR
  iintro Hc
  iapply Hk
  iexact Hc

/-- An accumulator splits into two shares -/
theorem acc_split (V : Vec F S1024x512 .f32) : own c (slot aM d g) V
    ⊢ iprop(owns (c : Thread nD τ) (slot aM d g) fullShare.left V ∗ owns (c : Thread nD τ) (slot aM d g) fullShare.right V) :=
  (owns_halves (c : Thread nD τ) (slot aM d g) fullShare V).1
/-- and is joined from them. -/
theorem acc_join (V : Vec F S1024x512 .f32) : iprop(owns (c : Thread nD τ) (slot aM d g) fullShare.left V ∗ owns (c : Thread nD τ) (slot aM d g) fullShare.right V)
    ⊢ own c (slot aM d g) V :=
  (owns_halves (c : Thread nD τ) (slot aM d g) fullShare V).2

set_option maxHeartbeats 2000000 in
theorem step_done : StepOk X Wt c d g K .done := fun l hl Q k => by
  show iprop(records X Wt K ∗ levAts L lv ∗ stg X Wt c ∗ aftSt X Wt c d g 6
        ∗ ((duty c (.cp d g, 0, 0) ∗ duty c (agS d g 0, 0, 0) ∗ duty c (agR d g 0, 0, 0)) ∗ emp ∗ emp) ∗ ow c ((agR d g 0, 0, 0) :: l))
    ⊢ iprop(((stg X Wt c ∗ passSt c d g 0 ∗ emp ∗ ow c l) -∗ wpP c k Q)
        -∗ wpP c (copyL d g (oOff d g c) (oInb d g c) <| sendA d g (tgt d c) (oOff d g c) (oInb d g c) k) Q)
  have ho : outs (F := F) d g c 7 = iprop(any (tgt d c) (outB d g c) ∗ outs d g c 6) := rfl
  unfold aftSt unw
  rw [ho]
  iintro ⟨#HR, -, Hs, ⟨Ha, Hr, ⟨Hown, Hnx, Hu⟩, Hat, -⟩, ⟨⟨Ht, Ht₁, Ht₂⟩, -, -⟩, Ho⟩ Hk
  ihave Ha := acc_split c d g (finV X Wt d g c) $$ Ha
  icases Ha with ⟨Hl, Hh⟩
  iapply (wp_copyL X Wt c d g K Q _) $$ [Hl Hown Ht]
  · isplitr; · iexact HR
    isplitl [Hl]; · iexact Hl
    isplitl [Hown] <;> iassumption
  iintro Hc
  iapply (wp_sendG X Wt K c (agS d g 0) (agR d g 0) _ _ rfl rfl rfl rfl (Finset.mem_singleton_self _) (Finset.mem_singleton_self _) (tgt d c) rfl rfl
      (slot aM d g) (outB d g c) (credit_out _ _) fullShare.right (finV X Wt d g c) iprop(emp)
      .rfl (by
        show iprop(own (tgt d c) (outB d g c) (finV X Wt d g c) ∗ emp) ⊢ own (tgt d c) (outB d g (ups d (tgt d c))) (finV X Wt d g (ups d (tgt d c)))
        rw [ups_tgt]
        iintro ⟨H, -⟩; iexact H) l (fun _ => k)) $$ [Hh Hnx Ht₁ Ht₂ Ho]
  · isplitr; · iexact HR
    isplitl [Hh]; · iexact Hh
    isplitl [Hnx]; · iexact Hnx
    isplitr; · iempintro
    isplitl [Ho]; · iexact Ho
    isplitl [Ht₁] <;> iassumption
  iintro ⟨Hc', Ho⟩
  iapply Hk
  isplitl [Hs]; · iexact Hs
  isplitl [Hr Hc Hc' Hu Hat]
  · unfold passSt flight flight
    isplitl [Hr]; · iexact Hr
    isplitl [Hc]; · iexact Hc
    isplitl [Hc']
    · isplitl [Hc']; · iexact Hc'
      iempintro
    isplitl [Hu] <;> iassumption
  isplitr; · iempintro
  iexact Ho

/-- The wait for the arrival of block `back d (t + 1) c`. -/
theorem wp_waitIn (t : Fin 7) (p : Dev nD) (l : List Ent) (hl : After (rank (agR d g t) 0) l) (Q : Post F) (k : P F) :
    iprop(records X Wt K ∗ levAts L lv ∗ crd c (agR d g t, 0, 0) ∗ ow c l ∗ pos0 c (agR d g t))
      ⊢ iprop(((ow c l ∗ zero c (agR d g t) ∗ blk X Wt d g c (back d (t.val + 1) c)) -∗ wpP c k Q)
          -∗ wpP c (waitIn t (semT cc0_scratch5 d t g) d g p k) Q) := by
  unfold waitIn
  split
  · exact wp_waitAO X Wt K c (agR d g t) (semT cc0_scratch5 d t g) rfl rfl (fun _ => rfl) d g _ _ l hl k
  · exact wp_waitOO X Wt K c (agR d g t) (semT cc0_scratch5 d t g) rfl rfl (fun _ => rfl) _ _ l hl k

theorem pay_agS (u : Fin 7) (hu : u ≠ 0) : payK X Wt c (agS d g u) 0 0 = blk X Wt d g c (back d u.val c) := if_neg hu

set_option maxHeartbeats 2000000 in
theorem step_pass (t : Fin 6) : StepOk X Wt c d g K (.pass t) := fun l hl Q k => by
  rw [mem_pass]
  show iprop(records X Wt K ∗ levAts L lv ∗ stg X Wt c ∗ passSt c d g t.val
        ∗ ((duty c (agS d g t.succ, 0, 0) ∗ duty c (agR d g t.succ, 0, 0)) ∗ crd c (agR d g t.castSucc, 0, 0) ∗ pos0 c (agR d g t.castSucc))
        ∗ ow c ((agR d g t.succ, 0, 0) :: l))
    ⊢ iprop(((stg X Wt c ∗ passSt c d g (t.val + 1) ∗ zero c (agR d g t.castSucc) ∗ ow c l) -∗ wpP c k Q)
        -∗ wpP c (waitIn t.castSucc (semT cc0_scratch5 d t.castSucc g) d g (back d t.val c) <|
      sendO d t.succ g (tgt d c) (oOff d g (back d (t.val + 1) c)) (oInb d g _) k) Q)
  have ho : outs (F := F) d g c (6 - t.val) = iprop(any (tgt d c) (outB d g (back d (t.val + 1) c)) ∗ outs d g c (6 - (t.val + 1))) := by
    fin_cases t <;> rfl
  have hf : flight (F := F) c d g (t.val + 1 + 1) = iprop(crd c (agS d g t.succ, 0, 0) ∗ flight c d g (t.val + 1)) := by
    show iprop(crd c (agS d g (Fin.ofNat 7 (t.val + 1)), 0, 0) ∗ flight c d g (t.val + 1)) = _
    rw [ofNat_succ]
  have hl' : After (rank (agR d g t.castSucc) 0) ((agR d g t.succ, 0, 0) :: l) := fun e he => by
    rcases List.mem_cons.mp he with rfl | he
    · refine ⟨(show 0 < 6 by decide), ?_⟩
      show 106 + (8 * t.val + (2 * g.val + d.val)) < 106 + (8 * (t.val + 1) + (2 * g.val + d.val))
      omega
    · exact hl e he
  have hp : payK X Wt c (agS d g t.succ) 0 0 = blk X Wt d g c (back d (t.val + 1) c) := pay_agS X Wt c d g t.succ (Fin.succ_ne_zero t)
  unfold passSt
  rw [ho, hf]
  iintro ⟨#HR, #Hlev, Hs, ⟨Hr, Hcp, Hfl, ⟨Hnx, Hu⟩, Hat⟩, ⟨⟨Ht₁, Ht₂⟩, Hc, Hp⟩, Ho⟩ Hk
  iapply (wp_waitIn X Wt c d g K t.castSucc _ ((agR d g t.succ, 0, 0) :: l) hl' Q _) $$ [Hc Hp Ho]
  · isplitr; · iexact HR
    isplitr; · iexact Hlev
    isplitl [Hc]; · iexact Hc
    isplitl [Ho] <;> iassumption
  iintro ⟨Ho, Hz, Hb⟩
  iapply (wp_sendG X Wt K c (agS d g t.succ) (agR d g t.succ) _ _ rfl rfl rfl rfl (Finset.mem_singleton_self _) (Finset.mem_singleton_self _) (tgt d c) rfl rfl
      (outB d g (back d (t.val + 1) c)) (outB d g (back d (t.val + 1) c)) (credit_out _ _) fullShare (finV X Wt d g (back d (t.val + 1) c)) iprop(emp)
      (by rw [hp]) (by
        show iprop(own (tgt d c) (outB d g (back d (t.val + 1) c)) (finV X Wt d g (back d (t.val + 1) c)) ∗ emp)
          ⊢ own (tgt d c) (outB d g (back d (t.succ.val + 1) (tgt d c))) (finV X Wt d g (back d (t.succ.val + 1) (tgt d c)))
        rw [back_tgt]
        iintro ⟨H, -⟩; iexact H) l (fun _ => k)) $$ [Hb Hnx Ht₁ Ht₂ Ho]
  · isplitr; · iexact HR
    isplitl [Hb]; · iexact Hb
    isplitl [Hnx]; · iexact Hnx
    isplitr; · iempintro
    isplitl [Ho]; · iexact Ho
    isplitl [Ht₁] <;> iassumption
  iintro ⟨Hc', Ho⟩
  iapply Hk
  isplitl [Hs]; · iexact Hs
  isplitl [Hr Hcp Hfl Hc' Hu Hat]
  · isplitl [Hr]; · iexact Hr
    isplitl [Hcp]; · iexact Hcp
    isplitl [Hfl Hc']; · isplitl [Hc'] <;> iassumption
    isplitl [Hu] <;> iassumption
  isplitl [Hz]; · iexact Hz
  iexact Ho

/-- The wait for block `u`'s read. -/
theorem wp_waitBack (u : Fin 7) (hu : u ≠ 0) (l : List Ent) (hl : After 0 l) (Q : Post F) (k : P F) :
    iprop(records X Wt K ∗ levAts L lv ∗ crd c (agS d g u, 0, 0) ∗ ow c l ∗ pos0 c (agS d g u))
      ⊢ iprop(((ow c l ∗ zero c (agS d g u) ∗ blk X Wt d g c (back d u.val c)) -∗ wpP c k Q)
          -∗ wpP c (waitBack c d g u k) Q) := by
  rw [← pay_agS X Wt c d g u hu]
  exact wp_waitOO X Wt K c (agS d g u) (semT cc0_scratch4 d u g) rfl rfl (fun _ => rfl) _ _ l hl k

theorem step_last : StepOk X Wt c d g K .last := fun l hl Q k => by
  show iprop(records X Wt K ∗ levAts L lv ∗ stg X Wt c
        ∗ (any c (slot rM d g) ∗ crd c (.cp d g, 0, 0)
          ∗ (crd c (agS d g 6, 0, 0) ∗ crd c (agS d g 5, 0, 0) ∗ crd c (agS d g 4, 0, 0) ∗ crd c (agS d g 3, 0, 0) ∗ crd c (agS d g 2, 0, 0)
            ∗ crd c (agS d g 1, 0, 0) ∗ crd c (agS d g 0, 0, 0) ∗ emp) ∗ emp ∗ crAt c d g 6)
        ∗ (emp ∗ crd c (agR d g 6, 0, 0) ∗ (pos0 c (agR d g 6) ∗ pos0 c (agS d g 0) ∗ pos0 c (agS d g 1) ∗ pos0 c (agS d g 2) ∗ pos0 c (agS d g 3)
          ∗ pos0 c (agS d g 4) ∗ pos0 c (agS d g 5) ∗ pos0 c (agS d g 6) ∗ pos0 c (.cp d g)))
        ∗ ow c l)
    ⊢ iprop(((stg X Wt c ∗ endSt X Wt c d g
          ∗ (zero c (agR d g 6) ∗ zero c (agS d g 0) ∗ zero c (agS d g 1) ∗ zero c (agS d g 2) ∗ zero c (agS d g 3)
          ∗ zero c (agS d g 4) ∗ zero c (agS d g 5) ∗ zero c (agS d g 6) ∗ zero c (.cp d g)) ∗ ow c l) -∗ wpP c k Q)
        -∗ wpP c (waitIn 6 (semT cc0_scratch5 d 6 g) d g (back d 6 c) <|
      waitOA (semT cc0_scratch4 d 0 g) d g (oOff d g c) (oInb d g c) <|
      waitBack c d g 1 <| waitBack c d g 2 <| waitBack c d g 3 <| waitBack c d g 4 <| waitBack c d g 5 <| waitBack c d g 6 <|
      waitAO (semL d g) d g (oOff d g c) (oInb d g c) k) Q)
  have h0 := hl.zero
  iintro ⟨#HR, #Hlev, Hs, ⟨Hr, Hcp, ⟨H6, H5, H4, H3, H2, H1, H0, -⟩, -, Hat⟩, ⟨-, H7, ⟨P7, P0, P1, P2, P3, P4, P5, P6, Pc⟩⟩, Ho⟩ Hk
  iapply (wp_waitIn X Wt c d g K 6 _ l hl Q _) $$ [H7 P7 Ho]
  · isplitr; · iexact HR
    isplitr; · iexact Hlev
    isplitl [H7]; · iexact H7
    isplitl [Ho] <;> iassumption
  iintro ⟨Ho, Z7, B7⟩
  iapply (wp_waitOA X Wt K c (agS d g 0) (semT cc0_scratch4 d 0 g) rfl rfl (fun _ => rfl) d g _ _ l h0 _) $$ [H0 P0 Ho]
  · isplitr; · iexact HR
    isplitr; · iexact Hlev
    isplitl [H0]; · iexact H0
    isplitl [Ho] <;> iassumption
  iintro ⟨Ho, Z0, Hh⟩
  ihave Hh := (show payK X Wt c (agS d g 0) 0 0 ⊢ owns (c : Thread nD τ) (slot aM d g) fullShare.right (finV X Wt d g c) from .rfl) $$ Hh
  iapply (wp_waitBack X Wt c d g K 1 (by decide) l h0 Q _) $$ [H1 P1 Ho]
  · isplitr; · iexact HR
    isplitr; · iexact Hlev
    isplitl [H1]; · iexact H1
    isplitl [Ho] <;> iassumption
  iintro ⟨Ho, Z1, B1⟩
  iapply (wp_waitBack X Wt c d g K 2 (by decide) l h0 Q _) $$ [H2 P2 Ho]
  · isplitr; · iexact HR
    isplitr; · iexact Hlev
    isplitl [H2]; · iexact H2
    isplitl [Ho] <;> iassumption
  iintro ⟨Ho, Z2, B2⟩
  iapply (wp_waitBack X Wt c d g K 3 (by decide) l h0 Q _) $$ [H3 P3 Ho]
  · isplitr; · iexact HR
    isplitr; · iexact Hlev
    isplitl [H3]; · iexact H3
    isplitl [Ho] <;> iassumption
  iintro ⟨Ho, Z3, B3⟩
  iapply (wp_waitBack X Wt c d g K 4 (by decide) l h0 Q _) $$ [H4 P4 Ho]
  · isplitr; · iexact HR
    isplitr; · iexact Hlev
    isplitl [H4]; · iexact H4
    isplitl [Ho] <;> iassumption
  iintro ⟨Ho, Z4, B4⟩
  iapply (wp_waitBack X Wt c d g K 5 (by decide) l h0 Q _) $$ [H5 P5 Ho]
  · isplitr; · iexact HR
    isplitr; · iexact Hlev
    isplitl [H5]; · iexact H5
    isplitl [Ho] <;> iassumption
  iintro ⟨Ho, Z5, B5⟩
  iapply (wp_waitBack X Wt c d g K 6 (by decide) l h0 Q _) $$ [H6 P6 Ho]
  · isplitr; · iexact HR
    isplitr; · iexact Hlev
    isplitl [H6]; · iexact H6
    isplitl [Ho] <;> iassumption
  iintro ⟨Ho, Z6, B6⟩
  iapply (wp_waitAO X Wt K c (.cp d g) (semL d g) rfl rfl (fun _ => rfl) d g _ _ l h0 _) $$ [Hcp Pc Ho]
  · isplitr; · iexact HR
    isplitr; · iexact Hlev
    isplitl [Hcp]; · iexact Hcp
    isplitl [Ho] <;> iassumption
  iintro ⟨Ho, Zc, Hb⟩
  ihave Hb := (show payK X Wt c (.cp d g) 0 0 ⊢ iprop(blk X Wt d g c c ∗ owns (c : Thread nD τ) (slot aM d g) fullShare.left (finV X Wt d g c)) from .rfl) $$ Hb
  icases Hb with ⟨B0, Hl⟩
  ihave Ha := acc_join c d g (finV X Wt d g c) $$ [Hl Hh]
  · isplitl [Hl] <;> iassumption
  imod (close X Wt K c (.cr d g) 6 (fun r hr => if_neg (by omega))) $$ [Hat] with Hz
  · isplitr; · iexact HR
    iexact Hat
  iapply Hk
  isplitl [Hs]; · iexact Hs
  isplitl [Hr Ha B0 B1 B2 B3 B4 B5 B6 B7 Hz]
  · unfold endSt
    isplitl [Hr]; · iexact Hr
    isplitl [Ha]; · iexists _; iexact Ha
    isplitl [B0 B1 B2 B3 B4 B5 B6 B7]
    · iapply (show iprop(blk X Wt d g c (back d 0 c) ∗ blk X Wt d g c (back d 1 c) ∗ blk X Wt d g c (back d 2 c) ∗ blk X Wt d g c (back d 3 c)
        ∗ blk X Wt d g c (back d 4 c) ∗ blk X Wt d g c (back d 5 c) ∗ blk X Wt d g c (back d 6 c) ∗ blk X Wt d g c (back d 7 c))
        ⊢ bigSepL [0, 1, 2, 3, 4, 5, 6, 7] (fun u => blk X Wt d g c (back d u c)) from .rfl)
      isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    iexact Hz
  isplitl [Z0 Z1 Z2 Z3 Z4 Z5 Z6 Z7 Zc]
  · isplitl [Z7]; · iexact Z7
    isplitl [Z0]; · iexact Z0
    isplitl [Z1]; · iexact Z1
    isplitl [Z2]; · iexact Z2
    isplitl [Z3]; · iexact Z3
    isplitl [Z4]; · iexact Z4
    isplitl [Z5]; · iexact Z5
    isplitl [Z6] <;> iassumption
  iexact Ho

/-- Every step does. -/
theorem step_ok (st : Step) : StepOk X Wt c d g K st := by
  cases st with
  | first => exact step_first X Wt c d g K
  | send s => exact step_send X Wt c d g K s
  | add s => exact step_add X Wt c d g K s
  | free s => exact step_free X Wt c d g K s
  | done => exact step_done X Wt c d g K
  | pass t => exact step_pass X Wt c d g K t
  | last => exact step_last X Wt c d g K

end Lane

end Cert.RingProof

end
-- ==== Proof.Body.lean ====
/-
# The body

A device's steps one after another: which lane's state each finds, and that what is still owed always comes after what
is waited for. Then the handshake before them.
-/
module

public import proofs.«01_k».proof.Proof.LaneStep

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The order of the steps -/

/-- A row group and a direction. -/
abbrev Ln : Type := Fin 2 × Fin 4

/-- What the steps pay, and the cells they are done with. -/
def payL (ss : List LStep) : List Ent := ss.flatMap fun s => paysOf s.1.1 s.1.2 s.2
def posL (ss : List LStep) : List CK := ss.flatMap fun s => posOf s.1.1 s.1.2 s.2

/-- Every lane's next step, after some steps. -/
def adv (σ : Ln → Option Step) : List LStep → Ln → Option Step
  | [] => σ
  | s :: ss => adv (Function.update σ s.1 (next s.2)) ss

/-- Each step is the next one of its lane. -/
def Legal (σ : Ln → Option Step) : List LStep → Prop
  | [] => True
  | s :: ss => σ s.1 = some s.2 ∧ Legal (Function.update σ s.1 (next s.2)) ss

instance decLegal (σ : Ln → Option Step) (ss : List LStep) : Decidable (Legal σ ss) := by
  induction ss generalizing σ with
  | nil => exact isTrue trivial
  | cons s ss ih => exact @instDecidableAnd _ _ _ (ih _)

/-- What is owed after a step comes after what the step waits for. -/
def Fits : List LStep → Prop
  | [] => True
  | s :: ss => After (placeOf s.1.1 s.1.2 s.2) (payL ss) ∧ Fits ss

instance decFits (ss : List LStep) : Decidable (Fits ss) := by
  induction ss with
  | nil => exact isTrue trivial
  | cons s ss ih => exact @instDecidableAnd _ _ _ ih

theorem legal_steps : Legal (fun _ => some .first) steps := by decide +kernel
theorem fits_steps : Fits steps := by decide +kernel
theorem adv_steps : adv (fun _ => some .first) steps = fun _ => none := by
  have h : ∀ l, adv (fun _ => some .first) steps l = none := by decide +kernel
  exact funext h
theorem after_bar : After 1 (payL steps) := by decide +kernel
theorem after_stage : After 0 ((.bar, 0, 0) :: (.bar, 1, 0) :: payL steps) := by decide +kernel

/-! ## The steps -/

section Body

variable (X : Dev nD → Vec F S4096x512 .f32) (Wt : Dev nD → Vec F S512x8192 .f32) (K : Dev nD × CK → ℕ) (c : Dev nD)

/-- Every lane's state. -/
def Mems (σ : Ln → Option Step) : sProp 𝕄 := bigSep Finset.univ fun l : Ln => Mem X Wt c l.1 l.2 (σ l)

/-- What the steps use. -/
def Ghs (ss : List LStep) : sProp 𝕄 := bigSepL ss fun s => Gh c s.1.1 s.1.2 s.2

theorem run_ok (Q : Post F) (ss : List LStep) : ∀ (σ : Ln → Option Step) (hσ : Legal σ ss) (hf : Fits ss),
    iprop(records X Wt K ∗ levAts L lv ∗ stg X Wt c ∗ Mems X Wt c σ ∗ Ghs c ss ∗ ow c (payL ss))
      ⊢ iprop(((stg X Wt c ∗ Mems X Wt c (adv σ ss) ∗ bigSepL (posL ss) (zero c) ∗ ow c []) -∗ Q ⟨⟩)
          -∗ wpP c (run (fun l => stepR c l.1 l.2) ss) Q) := by
  induction ss with
  | nil =>
    intro σ _ _
    show iprop(records X Wt K ∗ levAts L lv ∗ stg X Wt c ∗ Mems X Wt c σ ∗ emp ∗ ow c [])
      ⊢ iprop(((stg X Wt c ∗ Mems X Wt c σ ∗ emp ∗ ow c []) -∗ Q ⟨⟩) -∗ wpP c (.ret ⟨⟩) Q)
    iintro ⟨-, -, Hs, HM, -, Ho⟩ Hk
    unfold wpP
    rw [wp_ret]; imodintro
    iapply Hk
    isplitl [Hs]; · iexact Hs
    isplitl [HM]; · iexact HM
    isplitr; · iempintro
    iexact Ho
  | cons s ss ih =>
    rintro σ ⟨hσ, hσ'⟩ ⟨hf, hf'⟩
    have hG : Ghs c (s :: ss) = iprop(Gh c s.1.1 s.1.2 s.2 ∗ Ghs (F := F) c ss) := bigSepL_cons' _ _ _
    have hP : bigSepL (posL (s :: ss)) (zero (F := F) c) = iprop(bigSepL (posOf s.1.1 s.1.2 s.2) (zero c) ∗ bigSepL (posL ss) (zero c)) :=
      bigSepL_append _ _ _
    have hM : Mems X Wt c σ ⊢ iprop(Mem X Wt c s.1.1 s.1.2 (some s.2) ∗ (Mem X Wt c s.1.1 s.1.2 (next s.2) -∗ Mems X Wt c (Function.update σ s.1 (next s.2)))) := by
      have h := bigSep_univ_update (Φ := fun l : Ln => Mem X Wt c l.1 l.2 (σ l)) (Ψ := fun l : Ln => Mem X Wt c l.1 l.2 (Function.update σ s.1 (next s.2) l)) s.1
        (fun j hj => by rw [Function.update_of_ne hj])
      rw [Function.update_self, hσ] at h
      exact h
    show iprop(records X Wt K ∗ levAts L lv ∗ stg X Wt c ∗ Mems X Wt c σ ∗ Ghs c (s :: ss) ∗ ow c (paysOf s.1.1 s.1.2 s.2 ++ payL ss))
      ⊢ iprop(((stg X Wt c ∗ Mems X Wt c (adv (Function.update σ s.1 (next s.2)) ss) ∗ bigSepL (posL (s :: ss)) (zero c) ∗ ow c []) -∗ Q ⟨⟩)
          -∗ wpP c (stepR c s.1.1 s.1.2 s.2 (run (fun l => stepR c l.1 l.2) ss)) Q)
    rw [hG, hP]
    iintro ⟨#HR, #Hlev, Hs, HM, ⟨HG, HG'⟩, Ho⟩ Hk
    ihave HM := hM $$ HM
    icases HM with ⟨HM, HM'⟩
    iapply (step_ok X Wt c s.1.1 s.1.2 K s.2 (payL ss) hf Q (run (fun l => stepR c l.1 l.2) ss)) $$ [Hs HM HG Ho]
    · isplitr; · iexact HR
      isplitr; · iexact Hlev
      isplitl [Hs]; · iexact Hs
      isplitl [HM]; · iexact HM
      isplitl [HG] <;> iassumption
    iintro ⟨Hs, HM, Hz, Ho⟩
    ispecialize HM' $$ HM
    iapply (ih (Function.update σ s.1 (next s.2)) hσ' hf') $$ [Hs HM' HG' Ho]
    · isplitr; · iexact HR
      isplitr; · iexact Hlev
      isplitl [Hs]; · iexact Hs
      isplitl [HM']; · iexact HM'
      isplitl [HG'] <;> iassumption
    iintro ⟨Hs, HM, Hz', Ho⟩
    iapply Hk
    isplitl [Hs]; · iexact Hs
    isplitl [HM]; · iexact HM
    isplitl [Hz Hz']; · isplitl [Hz] <;> iassumption
    iexact Ho

/-! ## The handshake -/

/-- What a lane of a device starts from: its accumulator, what it hands the neighbour it receives from, the block of the
    device's own result it sums last, and its place at the cell of its landing slot. -/
def lane0 (l : Ln) : sProp 𝕄 :=
  iprop(any c (slot aM l.1 l.2) ∗ give l.1 (ups l.1 c) l.2 ∗ any c (outB l.1 l.2 c) ∗ crAt c l.1 l.2 0)

/-- What a device's body starts from, its staged inputs apart. -/
def body0 : sProp 𝕄 :=
  iprop((bigSep Finset.univ fun l : Ln => lane0 c l)
    ∗ (duty c (.bar, 0, 0) ∗ duty c (.bar, 1, 0) ∗ crd c (.bar, 0, 0) ∗ crd c (.bar, 1, 0) ∗ pos0 c .bar) ∗ Ghs c steps)

/-- What it ends with. -/
def body1 : sProp 𝕄 :=
  iprop((bigSep Finset.univ fun l : Ln => endSt X Wt c l.1 l.2) ∗ zero c .bar ∗ bigSepL (posL steps) (zero c))

/-- The lanes of the two directions. -/
theorem bigSep_lanes (Φ : Ln → sProp 𝕄) : bigSep Finset.univ Φ
    = iprop((Φ (0, 0) ∗ Φ (0, 1) ∗ Φ (0, 2) ∗ Φ (0, 3)) ∗ (Φ (1, 0) ∗ Φ (1, 1) ∗ Φ (1, 2) ∗ Φ (1, 3))) := by
  rw [bigSep_univ_prod, bigSep_univ_eq_bigSepL [0, 1] (by decide) (by decide), bigSepL_cons_cons, bigSepL_singleton,
    bigSep_univ_eq_bigSepL [0, 1, 2, 3] (by decide) (by decide), bigSep_univ_eq_bigSepL [0, 1, 2, 3] (by decide) (by decide)]
  rfl

/-- What the neighbour of direction `j` is handed. -/
theorem give_pay (j : Fin 2) : bigSep Finset.univ (fun g : Fin 4 => give (F := F) j (ups j c) g) ⊢ payK X Wt (ups j c) .bar 0 j := by
  rw [bigSep_univ_eq_bigSepL [0, 1, 2, 3] (by decide) (by decide)]
  exact .rfl

/-- What the two neighbours hand over. -/
theorem pay_give : iprop(payK X Wt c .bar 0 0 ∗ payK X Wt c .bar 0 1) ⊢ bigSep Finset.univ (fun l : Ln => give (F := F) l.1 c l.2) := by
  rw [bigSep_lanes]
  exact .rfl

theorem first_mems : iprop((bigSep Finset.univ fun l : Ln => any (F := F) c (slot aM l.1 l.2)) ∗ (bigSep Finset.univ fun l : Ln => give (F := F) l.1 c l.2)
      ∗ (bigSep Finset.univ fun l : Ln => any (F := F) c (outB l.1 l.2 c)) ∗ (bigSep Finset.univ fun l : Ln => crAt (F := F) c l.1 l.2 0))
    ⊢ Mems X Wt c (fun _ => some .first) := by
  rw [← bigSep_sep', ← bigSep_sep', ← bigSep_sep']
  refine bigSep_mono fun l _ => ?_
  show iprop(any (F := F) c (slot aM l.1 l.2) ∗ give (F := F) l.1 c l.2 ∗ any (F := F) c (outB l.1 l.2 c) ∗ crAt (F := F) c l.1 l.2 0) ⊢ firstSt c l.1 l.2
  unfold firstSt unw give
  iintro ⟨Ha, ⟨Hr, Hu⟩, Ho, Hc⟩
  isplitl [Ha]; · iexact Ha
  isplitl [Hr]; · iexact Hr
  isplitl [Ho Hu]; · isplitl [Ho] <;> iassumption
  iexact Hc

theorem lane0_split : (bigSep Finset.univ fun l : Ln => lane0 (F := F) c l)
    ⊢ iprop((bigSep Finset.univ fun l : Ln => any (F := F) c (slot aM l.1 l.2))
      ∗ ((bigSep Finset.univ fun g : Fin 4 => give (F := F) 0 (ups 0 c) g) ∗ (bigSep Finset.univ fun g : Fin 4 => give (F := F) 1 (ups 1 c) g))
      ∗ (bigSep Finset.univ fun l : Ln => any (F := F) c (outB l.1 l.2 c)) ∗ (bigSep Finset.univ fun l : Ln => crAt (F := F) c l.1 l.2 0)) := by
  have h : (bigSep Finset.univ fun l : Ln => give (F := F) l.1 (ups l.1 c) l.2)
      = iprop((bigSep Finset.univ fun g : Fin 4 => give (F := F) 0 (ups 0 c) g) ∗ (bigSep Finset.univ fun g : Fin 4 => give (F := F) 1 (ups 1 c) g)) := by
    rw [bigSep_univ_prod, bigSep_univ_eq_bigSepL [0, 1] (by decide) (by decide), bigSepL_cons_cons, bigSepL_singleton]
    rfl
  rw [← h, ← bigSep_sep', ← bigSep_sep', ← bigSep_sep']
  exact .rfl

theorem crd_bar : iprop(crd (F := F) c (.bar, 0, 0) ∗ crd c (.bar, 1, 0)) ⊢ cred (tallyAt (cell c .bar) 0 2) := by
  have h : (tallyAt (cell c .bar) 0 2 : CellTallies nD τ sig ℕ) = tallyAt (cell c .bar) 0 1 + tallyAt (cell c .bar) 0 1 := by rw [tallyAt_add]
  rw [h]
  exact (cred_add _ _).2

theorem body_ok (Q : Post F) :
    iprop(records X Wt K ∗ levAts L lv ∗ stg X Wt c ∗ body0 c ∗ ow c ((.bar, 0, 0) :: (.bar, 1, 0) :: payL steps))
      ⊢ iprop(((stg X Wt c ∗ body1 X Wt c ∗ ow c []) -∗ Q ⟨⟩) -∗ wpP c (bodyK c) Q) := by
  have hb : bodyK (F := F) c = sig1 (ups 0 c) semB (sig1 (ups 1 c) semB (waitS semB 2 (run (fun l => stepR c l.1 l.2) steps))) := by
    unfold bodyK
    rw [left_eq, right_eq, show (fun (l : Fin 2 × Fin 4) => stepK (F := F) c l.1 l.2) = fun l => stepR c l.1 l.2 from
      funext fun l => funext fun s => funext fun k => stepK_eq c l.1 l.2 s k]
  rw [hb]
  unfold body0
  iintro ⟨#HR, #Hlev, Hs, ⟨Hl, ⟨Ht₀, Ht₁, Hc₀, Hc₁, Hat⟩, HG⟩, Ho⟩ Hk
  ihave Hl := lane0_split c $$ Hl
  icases Hl with ⟨Ha, ⟨Hg₀, Hg₁⟩, Hown, Hcr⟩
  ihave Hg₀ := give_pay X Wt c 0 $$ Hg₀
  ihave Hg₁ := give_pay X Wt c 1 $$ Hg₁
  iapply (wp_sig X Wt K c .bar semB rfl rfl 0 0 (Finset.mem_univ _) (ups 0 c) rfl ((.bar, 1, 0) :: payL steps) _) $$ [Ho Ht₀ Hg₀]
  · isplitr; · iexact HR
    isplitr; · iapply (reached_at X Wt K (ups 0 c) .bar); iexact HR
    isplitl [Ho]; · iexact Ho
    isplitl [Ht₀] <;> iassumption
  iintro Ho
  iapply (wp_sig X Wt K c .bar semB rfl rfl 1 0 (Finset.mem_univ _) (ups 1 c) rfl (payL steps) _) $$ [Ho Ht₁ Hg₁]
  · isplitr; · iexact HR
    isplitr; · iapply (reached_at X Wt K (ups 1 c) .bar); iexact HR
    isplitl [Ho]; · iexact Ho
    isplitl [Ht₁] <;> iassumption
  iintro Ho
  ihave Hc := crd_bar c $$ [Hc₀ Hc₁]
  · isplitl [Hc₀] <;> iassumption
  iapply (wp_waitC X Wt K c .bar 0 2 (by decide) (expect_bar X Wt c) (payL steps) after_bar (wpE_semWait_eq 𝒱₀ (c : Thread nD τ) none Set.univ)
    (fun _ => run (fun l => stepR c l.1 l.2) steps)) $$ [Hc Hat Ho]
  · isplitr; · iexact HR
    isplitr; · iexact Hlev
    isplitl [Hc]; · iexact Hc
    isplitl [Ho]; · iexact Ho
    unfold pos0; iexact Hat
  iintro ⟨Ho, Hat, -, Hp⟩
  ihave Hp := (Entails.of_eq (rest_bar X Wt c)) $$ Hp
  ihave Hp := pay_give X Wt c $$ Hp
  imod (close X Wt K c .bar 1 (fun r hr => if_neg (by omega))) $$ [Hat] with Hz
  · isplitr; · iexact HR
    iexact Hat
  ihave HM := first_mems X Wt c $$ [Ha Hp Hown Hcr]
  · isplitl [Ha]; · iexact Ha
    isplitl [Hp]; · iexact Hp
    isplitl [Hown] <;> iassumption
  iapply (run_ok X Wt K c Q steps (fun _ => some .first) legal_steps fits_steps) $$ [Hs HM HG Ho]
  · isplitr; · iexact HR
    isplitr; · iexact Hlev
    isplitl [Hs]; · iexact Hs
    isplitl [HM]; · iexact HM
    isplitl [HG] <;> iassumption
  rw [adv_steps]
  iintro ⟨Hs, HM, Hzs, Ho⟩
  iapply Hk
  isplitl [Hs]; · iexact Hs
  isplitl [HM Hz Hzs]
  · unfold body1
    isplitl [HM]
    · iapply (show Mems X Wt c (fun _ => none) ⊢ bigSep Finset.univ (fun l : Ln => endSt X Wt c l.1 l.2) from .rfl)
      iexact HM
    isplitl [Hz] <;> iassumption
  iexact Ho

end Body

end Cert.RingProof

end
-- ==== Proof.Arrays.lean ====
/-
# The arrays by lanes

The result array as the blocks of the lanes, and the accumulator and landing buffers as the slots of the lanes: each is
split when a device starts and put together when it ends.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The blocks of the result -/

/-- A lane and the device that makes the block's last sum. -/
abbrev Bk : Type := Ln × Dev nD

/-- A block of the result array. -/
abbrev oR (t : Bk) : Rect S4096x8192 := Rect.unit (s := S4096x8192) (oOff t.1.1 t.1.2 t.2) S1024x512.size (oInb _ _ _)

theorem tgt_inj (d : Fin 2) {p p' : Dev nD} (h : tgt d p = tgt d p') : p = p' := by
  rw [← ups_tgt d p, h, ups_tgt]

theorem oR_disj (t t' : Bk) (h : t ≠ t') : Disjoint (oR t).set (oR t').set := by
  rcases t with ⟨⟨d, g⟩, p⟩
  rcases t' with ⟨⟨d', g'⟩, p'⟩
  by_cases hg : g = g'
  · subst hg
    refine Rect.unit_disjoint 1 ?_
    show 1024 * (tgt d p).val + 512 * d.val + 512 ≤ 1024 * (tgt d' p').val + 512 * d'.val
      ∨ 1024 * (tgt d' p').val + 512 * d'.val + 512 ≤ 1024 * (tgt d p).val + 512 * d.val
    have hd : ¬((tgt d p).val = (tgt d' p').val ∧ d.val = d'.val) := fun ⟨h1, h2⟩ => by
      have e : d = d' := Fin.ext h2
      subst e
      exact h (by rw [tgt_inj d (Fin.ext h1)])
    have := d.isLt; have := d'.isLt
    omega
  · refine Rect.unit_disjoint 0 ?_
    show 1024 * g.val + 1024 ≤ 1024 * g'.val ∨ 1024 * g'.val + 1024 ≤ 1024 * g.val
    have : g.val ≠ g'.val := fun e => hg (Fin.ext e)
    omega

/-- The block an index of the result lies in, -/
def bkOf (i : S4096x8192.Idx) : Bk :=
  have h0 : (i 0).val < 4096 := (i 0).isLt
  have h1 : (i 1).val < 8192 := (i 1).isLt
  let d : Fin 2 := ⟨(i 1).val % 1024 / 512, by omega⟩
  ((d, ⟨(i 0).val / 1024, by omega⟩), ups d ⟨(i 1).val / 1024, by show _ < 8; omega⟩)
/-- and its place there. -/
def inBk (i : S4096x8192.Idx) : S1024x512.Idx :=
  fun a => ⟨(i a).val % S1024x512.size a, Nat.mod_lt _ (by revert a; decide)⟩

theorem mem_bkOf (i : S4096x8192.Idx) : i ∈ (oR (bkOf i)).set := by
  have h0 : (i 0).val < 4096 := (i 0).isLt
  have h1 : (i 1).val < 8192 := (i 1).isLt
  refine Rect.mem_set_unit.mpr fun a => ?_
  unfold oOff bkOf
  dsimp only
  rw [tgt_ups]
  fin_cases a
  · show 1024 * ((i 0).val / 1024) ≤ (i 0).val ∧ (i 0).val < 1024 * ((i 0).val / 1024) + 1024
    omega
  · show 1024 * ((i 1).val / 1024) + 512 * ((i 1).val % 1024 / 512) ≤ (i 1).val
      ∧ (i 1).val < 1024 * ((i 1).val / 1024) + 512 * ((i 1).val % 1024 / 512) + 512
    omega

theorem oR_cover : (Finset.univ : Finset Bk).biUnion (fun t => (oR t).set) = Finset.univ :=
  Finset.eq_univ_iff_forall.mpr fun i => Finset.mem_biUnion.mpr ⟨bkOf i, Finset.mem_univ _, mem_bkOf i⟩

theorem bkOf_emb (t : Bk) (j : (oR t).shape.Idx) : bkOf ((oR t).emb j) = t := by
  by_contra h
  have h1 := mem_bkOf ((oR t).emb j)
  have h2 : (oR t).emb j ∈ (oR t).set := by
    rw [← Rect.map_emb_univ]; exact Finset.mem_map_of_mem _ (Finset.mem_univ j)
  exact Finset.disjoint_left.mp (oR_disj _ _ h) h1 h2

theorem inBk_emb (t : Bk) (j : (oR t).shape.Idx) : inBk ((oR t).emb j) = j := by
  refine funext fun a => Fin.ext ?_
  show ((oR t).emb j a).val % S1024x512.size a = (j a).val
  rw [Rect.emb_apply]
  show (oOff t.1.1 t.1.2 t.2 a + 1 * (j a).val) % S1024x512.size a = (j a).val
  have hj : (j a).val < S1024x512.size a := (j a).isLt
  unfold oOff
  fin_cases a
  · change (j 0).val < 1024 at hj
    show (1024 * t.1.2.val + 1 * (j 0).val) % 1024 = (j 0).val
    omega
  · change (j 1).val < 512 at hj
    show (1024 * (tgt t.1.1 t.2).val + 512 * t.1.1.val + 1 * (j 1).val) % 512 = (j 1).val
    omega

section Values

variable (X : Dev nD → Vec F S4096x512 .f32) (Wt : Dev nD → Vec F S512x8192 .f32)

/-- The whole result: each block its last sum. -/
def outV : Vec F S4096x8192 .f32 := fun i => finV X Wt (bkOf i).1.1 (bkOf i).1.2 (bkOf i).2 (inBk i)

theorem outV_emb (t : Bk) (j : (oR t).shape.Idx) : outV X Wt ((oR t).emb j) = finV X Wt t.1.1 t.1.2 t.2 j := by
  unfold outV
  rw [bkOf_emb, inBk_emb]

variable (c : Dev nD)

theorem any_of (m : Memref sig .tc .hbm S1024x512 .f32) (V : Vec F S1024x512 .f32) : own c m V ⊢ any c m := by
  iintro H
  iexists V
  iexact H

/-- The result array, at whatever it holds, is the blocks of the lanes. -/
theorem result_split (f : Vec F S4096x8192 .f32) : ((c : Thread nD τ).loc main_v1 ↦{fullShare} f : sProp 𝕄)
    ⊢ bigSep Finset.univ fun l : Ln => bigSep Finset.univ fun p : Dev nD => any c (outB l.1 l.2 p) := by
  rw [← bigSep_univ_prod (fun t : Bk => any (F := F) c (outB t.1.1 t.1.2 t.2)), ← owns_whole (c : Thread nD τ) main_v1 fullShare f]
  exact (owns_rects (c : Thread nD τ) oM fullShare oR (fun _ _ => rfl) oR_disj oR_cover f).trans (bigSep_mono fun t _ => any_of c (outB t.1.1 t.1.2 t.2) _)

/-- The final blocks are the result array. -/
theorem result_join : (bigSep Finset.univ fun l : Ln => bigSep Finset.univ fun p : Dev nD => blk X Wt l.1 l.2 c p)
    ⊢ ((c : Thread nD τ).loc main_v1 ↦{fullShare} outV X Wt : sProp 𝕄) := by
  rw [← bigSep_univ_prod (fun t : Bk => blk X Wt t.1.1 t.1.2 c t.2), ← owns_whole (c : Thread nD τ) main_v1 fullShare (outV X Wt)]
  refine (bigSep_mono fun t _ => ?_).trans (owns_of_rects (c : Thread nD τ) oM fullShare oR (fun _ _ => rfl) oR_disj oR_cover (outV X Wt))
  rw [show (fun j => outV X Wt ((oR t).emb j)) = finV X Wt t.1.1 t.1.2 t.2 from funext fun j => outV_emb X Wt t j]
  exact (show blk X Wt t.1.1 t.1.2 c t.2 ⊢ own c (outB t.1.1 t.1.2 t.2) (finV X Wt t.1.1 t.1.2 t.2) from .rfl)

/-- The devices, from `c` back. -/
theorem univ_back (d : Fin 2) : (Finset.univ : Finset (Dev nD)) = (([0, 1, 2, 3, 4, 5, 6, 7] : List ℕ).map fun u => back d u c).toFinset := by
  revert d c; decide +kernel
theorem nodup_back (d : Fin 2) : (([0, 1, 2, 3, 4, 5, 6, 7] : List ℕ).map fun u => back d u c).Nodup := by
  revert d c; decide +kernel

theorem bigSep_back (d : Fin 2) (Φ : Dev nD → sProp 𝕄) :
    bigSep Finset.univ Φ = bigSepL [0, 1, 2, 3, 4, 5, 6, 7] fun u => Φ (back d u c) := by
  rw [bigSep_univ_eq_bigSepL _ (univ_back c d) (nodup_back c d), bigSepL_map]

/-- The blocks of a lane are its own, and those the neighbour fills. -/
theorem blocks_out (d : Fin 2) (g : Fin 4) : (bigSep Finset.univ fun p : Dev nD => any (F := F) c (outB d g p))
    ⊢ iprop(any (F := F) c (outB d g c) ∗ outs d g (ups d c) 7) := by
  have e : (bigSep Finset.univ fun p : Dev nD => any (F := F) c (outB d g p)) = iprop(any (F := F) c (outB d g (back d 0 c))
      ∗ any (F := F) c (outB d g (back d 1 c)) ∗ any (F := F) c (outB d g (back d 2 c))
      ∗ any (F := F) c (outB d g (back d 3 c)) ∗ any (F := F) c (outB d g (back d 4 c)) ∗ any (F := F) c (outB d g (back d 5 c))
      ∗ any (F := F) c (outB d g (back d 6 c)) ∗ any (F := F) c (outB d g (back d 7 c))) := by
    rw [bigSep_back c d]; rfl
  unfold outs outs outs outs outs outs outs outs
  rw [e, tgt_ups]
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

end Values

/-! ## The slots of the scratch buffers -/

theorem lR_disj (l l' : Ln) (h : l ≠ l') : Disjoint (lR l.1 l.2).set (lR l'.1 l'.2).set := by
  rcases l with ⟨d, g⟩
  rcases l' with ⟨d', g'⟩
  by_cases hd : d = d'
  · subst hd
    refine Rect.unit_disjoint 1 ?_
    show 1024 * g.val + 1024 ≤ 1024 * g'.val ∨ 1024 * g'.val + 1024 ≤ 1024 * g.val
    have : g.val ≠ g'.val := fun e => h (by rw [Fin.ext e])
    omega
  · refine Rect.unit_disjoint 0 ?_
    show d.val + 1 ≤ d'.val ∨ d'.val + 1 ≤ d.val
    have : d.val ≠ d'.val := fun e => hd (Fin.ext e)
    omega

theorem lR_cover : (Finset.univ : Finset Ln).biUnion (fun l => (lR l.1 l.2).set) = Finset.univ :=
  Finset.eq_univ_iff_forall.mpr fun i => by
    have h0 : (i 0).val < 2 := (i 0).isLt
    have h1 : (i 1).val < 4096 := (i 1).isLt
    have h2 : (i 2).val < 512 := (i 2).isLt
    refine Finset.mem_biUnion.mpr ⟨(⟨(i 0).val, h0⟩, ⟨(i 1).val / 1024, by omega⟩), Finset.mem_univ _, Rect.mem_set_unit.mpr fun a => ?_⟩
    fin_cases a
    · show (i 0).val ≤ (i 0).val ∧ (i 0).val < (i 0).val + 1
      omega
    · show 1024 * ((i 1).val / 1024) ≤ (i 1).val ∧ (i 1).val < 1024 * ((i 1).val / 1024) + 1024
      omega
    · show 0 ≤ (i 2).val ∧ (i 2).val < 0 + 512
      omega

section Slots

variable (c : Dev nD) (M : Memref sig .tc .vmem S2x4096x512 .f32)

theorem slot_of_slice (d : Fin 2) (g : Fin 4) :
    ownsSat (c : Thread nD τ) (M.slice (lR d g) (fun _ => rfl)) fullShare (fun _ => True) ⊢ (any c (slot M d g) : sProp 𝕄) := by
  unfold ownsSat any own owns
  iintro ⟨%f, -, H⟩
  iexists _
  iexists f
  isplitr; · ipureintro; rfl
  rw [← slot_set]
  iexact H

theorem slice_of_slot (d : Fin 2) (g : Fin 4) :
    (any c (slot M d g) : sProp 𝕄) ⊢ ownsSat (c : Thread nD τ) (M.slice (lR d g) (fun _ => rfl)) fullShare (fun _ => True) := by
  unfold ownsSat any own owns
  iintro ⟨%V, %f, -, H⟩
  iexists f
  isplitr; · ipureintro; trivial
  rw [← slot_set]
  iexact H

theorem slots_split : ownsSat (c : Thread nD τ) M fullShare (fun _ => True) ⊢ (bigSep Finset.univ fun l : Ln => any c (slot M l.1 l.2) : sProp 𝕄) := by
  refine BI.Entails.trans ?_ ((ownsSat_rects (c : Thread nD τ) M fullShare (fun l : Ln => lR l.1 l.2) (fun _ _ => rfl) lR_disj lR_cover
    (fun _ _ => True)).trans (bigSep_mono fun l _ => slot_of_slice c M l.1 l.2))
  exact ownsSat_mono (c : Thread nD τ) M fullShare fun _ _ _ => trivial

theorem slots_join : (bigSep Finset.univ fun l : Ln => any c (slot M l.1 l.2) : sProp 𝕄) ⊢ ownsSat (c : Thread nD τ) M fullShare (fun _ => True) :=
  (bigSep_mono fun l _ => slice_of_slot c M l.1 l.2).trans ((ownsSat_of_rects (c : Thread nD τ) M fullShare (fun l : Ln => lR l.1 l.2) (fun _ _ => rfl)
    lR_disj lR_cover (fun _ _ => True)).trans (ownsSat_mono (c : Thread nD τ) M fullShare fun _ _ => trivial))

end Slots

/-- A scratch buffer held whole is held as a memref, -/
theorem sat_whole (c : Dev nD) (b : Ref sig .tc) : (iprop(∃ f, (c : Thread nD τ).loc b ↦{fullShare} f) : sProp 𝕄)
    ⊢ ownsSat (c : Thread nD τ) (Memref.whole b) fullShare (fun _ => True) := by
  unfold ownsSat
  simp only [Memref.view_whole, View.set_whole]
  iintro ⟨%f, H⟩
  iexists f
  isplitr; · ipureintro; trivial
  iexact H
/-- and back. -/
theorem whole_sat (c : Dev nD) (b : Ref sig .tc) : ownsSat (c : Thread nD τ) (Memref.whole b) fullShare (fun _ => True)
    ⊢ (iprop(∃ f, (c : Thread nD τ).loc b ↦{fullShare} f) : sProp 𝕄) := by
  unfold ownsSat
  simp only [Memref.view_whole, View.set_whole]
  iintro ⟨%f, -, H⟩
  iexists f
  iexact H

theorem accs_split (c : Dev nD) : (iprop(∃ f, (c : Thread nD τ).loc cc0_scratch0 ↦{fullShare} f) : sProp 𝕄)
    ⊢ bigSep Finset.univ fun l : Ln => any c (slot aM l.1 l.2) := (sat_whole c cc0_scratch0).trans (slots_split c aM)
theorem accs_join (c : Dev nD) : (bigSep Finset.univ fun l : Ln => any (F := F) c (slot aM l.1 l.2))
    ⊢ (iprop(∃ f, (c : Thread nD τ).loc cc0_scratch0 ↦{fullShare} f) : sProp 𝕄) := (slots_join c aM).trans (whole_sat c cc0_scratch0)
theorem lands_split (c : Dev nD) : (iprop(∃ f, (c : Thread nD τ).loc cc0_scratch1 ↦{fullShare} f) : sProp 𝕄)
    ⊢ bigSep Finset.univ fun l : Ln => any c (slot rM l.1 l.2) := (sat_whole c cc0_scratch1).trans (slots_split c rM)
theorem lands_join (c : Dev nD) : (bigSep Finset.univ fun l : Ln => any (F := F) c (slot rM l.1 l.2))
    ⊢ (iprop(∃ f, (c : Thread nD τ).loc cc0_scratch1 ↦{fullShare} f) : sProp 𝕄) := (slots_join c rM).trans (whole_sat c cc0_scratch1)

/-- What a device's lanes start from in memory. -/
theorem mem_start (c : Dev nD) (f : Vec F S4096x8192 .f32) :
    iprop(((c : Thread nD τ).loc main_v1 ↦{fullShare} f) ∗ (∃ f, (c : Thread nD τ).loc cc0_scratch0 ↦{fullShare} f)
        ∗ (∃ f, (c : Thread nD τ).loc cc0_scratch1 ↦{fullShare} f) ∗ bigSep Finset.univ fun l : Ln => crAt (F := F) c l.1 l.2 0)
      ⊢ (bigSep Finset.univ fun l : Ln => lane0 c l : sProp 𝕄) := by
  have h : iprop((bigSep Finset.univ fun l : Ln => bigSep Finset.univ fun p : Dev nD => any (F := F) c (outB l.1 l.2 p))
      ∗ (bigSep Finset.univ fun l : Ln => any (F := F) c (slot aM l.1 l.2)) ∗ (bigSep Finset.univ fun l : Ln => any (F := F) c (slot rM l.1 l.2))
      ∗ (bigSep Finset.univ fun l : Ln => crAt (F := F) c l.1 l.2 0)) ⊢ (bigSep Finset.univ fun l : Ln => lane0 c l : sProp 𝕄) := by
    rw [← bigSep_sep', ← bigSep_sep', ← bigSep_sep']
    refine bigSep_mono fun l _ => ?_
    have h1 : iprop((bigSep Finset.univ fun p : Dev nD => any (F := F) c (outB l.1 l.2 p)) ∗ any (F := F) c (slot aM l.1 l.2)
        ∗ any (F := F) c (slot rM l.1 l.2) ∗ crAt (F := F) c l.1 l.2 0) ⊢ lane0 c l := by
      unfold lane0 give
      rw [tgt_ups]
      iintro ⟨Ho, Ha, Hr, Hc⟩
      ihave H := (blocks_out (F := F) c l.1 l.2) $$ Ho
      icases H with ⟨H1, H2⟩
      isplitl [Ha]; · iexact Ha
      isplitl [Hr H2]
      · isplitl [Hr]; · iexact Hr
        iexact H2
      isplitl [H1]; · iexact H1
      iexact Hc
    exact h1
  iintro ⟨Ho, Ha, Hr, Hc⟩
  iapply h
  isplitl [Ho]; · iapply (result_split c f); iexact Ho
  isplitl [Ha]; · iapply (accs_split c); iexact Ha
  isplitl [Hr]; · iapply (lands_split c); iexact Hr
  iexact Hc

/-- What they leave. -/
theorem mem_end (X : Dev nD → Vec F S4096x512 .f32) (Wt : Dev nD → Vec F S512x8192 .f32) (c : Dev nD) :
    (bigSep Finset.univ fun l : Ln => endSt X Wt c l.1 l.2)
      ⊢ iprop(((c : Thread nD τ).loc main_v1 ↦{fullShare} outV X Wt) ∗ (∃ f, (c : Thread nD τ).loc cc0_scratch0 ↦{fullShare} f)
        ∗ (∃ f, (c : Thread nD τ).loc cc0_scratch1 ↦{fullShare} f) ∗ bigSep Finset.univ fun l : Ln => zero (F := F) c (.cr l.1 l.2)) := by
  have e : (bigSep Finset.univ fun l : Ln => bigSepL [0, 1, 2, 3, 4, 5, 6, 7] (fun u => blk X Wt l.1 l.2 c (back l.1 u c)))
      = (bigSep Finset.univ fun l : Ln => bigSep Finset.univ fun p : Dev nD => blk X Wt l.1 l.2 c p) :=
    bigSep_congr fun l _ => (bigSep_back c l.1 (fun p => blk X Wt l.1 l.2 c p)).symm
  unfold endSt
  rw [bigSep_sep', bigSep_sep', bigSep_sep']
  iintro ⟨Hr, Ha, Ho, Hc⟩
  isplitl [Ho]
  · iapply (result_join X Wt c)
    iapply (Entails.of_eq e)
    iexact Ho
  isplitl [Ha]; · iapply (accs_join c); iexact Ha
  isplitl [Hr]; · iapply (lands_join c); iexact Hr
  iexact Hc

end Cert.RingProof

end
-- ==== Proof.Deal.lean ====
/-
# What the launch deals

The rights to pay, the positions and the credits a device starts from, out of what the launch makes for every cell; and
the semaphores, at zero before and after.
-/
module

public import proofs.«01_k».proof.Proof.Arrays
public import proofs.«01_k».proof.Proof.Gen.KernelIdeal.Launch

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The lists -/

def tokL (ss : List LStep) : List Ent := ss.flatMap fun s => toksOf s.1.1 s.1.2 s.2
def credL (ss : List LStep) : List Ent := ss.flatMap fun s => credsOf s.1.1 s.1.2 s.2

/-- Every payment a device makes, -/
def ents : List Ent := (.bar, 0, 0) :: (.bar, 1, 0) :: tokL steps
/-- those it owes, -/
def pays : List Ent := (.bar, 0, 0) :: (.bar, 1, 0) :: payL steps
/-- those it is owed, -/
def creds : List Ent := (.bar, 0, 0) :: (.bar, 1, 0) :: credL steps
/-- and the cells the kernel's own scope holds: all but the handshake's. -/
def ocks : List CK := (lanes.map fun l => .cr l.1 l.2) ++ posL steps

theorem ents_nodup : ents.Nodup := by decide +kernel
theorem pays_nodup : pays.Nodup := by decide +kernel
theorem pays_perm : pays.Perm creds := by decide +kernel
theorem cks_perm : cks.Perm (.bar :: ocks) := by decide +kernel
theorem ocks_nodup : ocks.Nodup := (List.nodup_cons.mp (cks_perm.nodup_iff.mp cks_nodup)).2

theorem perm_eq {I : Type} [DecidableEq I] {l l' : List I} (h : l.Perm l') (hn : l.Nodup) (Φ : I → sProp 𝕄) : bigSepL l Φ = bigSepL l' Φ := by
  rw [← bigSep_eq_bigSepL_of_eq l rfl hn, ← bigSep_eq_bigSepL_of_eq l' rfl (h.nodup_iff.mp hn), List.toFinset_eq_of_perm _ _ h]

theorem bigSep_cks (Φ : CK → sProp 𝕄) : bigSep Finset.univ Φ = iprop(Φ .bar ∗ bigSepL ocks Φ) := by
  rw [bigSep_univ_eq_bigSepL cks (Finset.ext fun k => by simp [cks_complete]) cks_nodup, perm_eq cks_perm cks_nodup, bigSepL_cons']

theorem bigSepL_lanes (Φ : CK → sProp 𝕄) : bigSepL (lanes.map fun l => CK.cr l.1 l.2) Φ = bigSep Finset.univ fun l : Ln => Φ (.cr l.1 l.2) := by
  rw [bigSepL_map, bigSep_univ_eq_bigSepL lanes (by decide) (by decide)]

/-- What the steps use, from what a device has of each kind. -/
theorem ghs_of (c : Dev nD) (ss : List LStep) :
    iprop(bigSepL (tokL ss) (duty c) ∗ bigSepL (credL ss) (crd c) ∗ bigSepL (posL ss) (pos0 c)) ⊢ (Ghs c ss : sProp 𝕄) := by
  induction ss with
  | nil =>
    unfold Ghs
    iintro -
    show (_ : sProp 𝕄) ⊢ iprop(emp)
    iintro -; iempintro
  | cons s ss ih =>
    have e : (Ghs c (s :: ss) : sProp 𝕄) = iprop(Gh c s.1.1 s.1.2 s.2 ∗ Ghs c ss) := bigSepL_cons' _ _ _
    rw [e]
    unfold tokL credL posL
    rw [List.flatMap_cons, List.flatMap_cons, List.flatMap_cons, bigSepL_append, bigSepL_append, bigSepL_append]
    iintro ⟨⟨H1, T1⟩, ⟨H2, T2⟩, H3, T3⟩
    isplitl [H1 H2 H3]
    · unfold Gh
      isplitl [H1]; · iexact H1
      isplitl [H2]; · iexact H2
      iexact H3
    iapply ih
    unfold tokL credL posL
    isplitl [T1]; · iexact T1
    isplitl [T2]; · iexact T2
    iexact T3

/-! ## The cells and tokens made -/

theorem cell_injective : Function.Injective fun ck : Dev nD × CK => cell ck.1 ck.2 := by
  rintro ⟨c, k⟩ ⟨c', k'⟩ h
  have h1 : c = c' := congrArg (fun g : GSem nD τ sig => g.1.1) h
  have h2 : csem k = csem k' := congrArg Prod.snd h
  rw [h1, csem_injective h2]

def ringCells : Finset (GSem nD τ sig) := Finset.univ.map ⟨_, cell_injective⟩

/-- A cell's right to be paid, as made. -/
abbrev tokOf (ce : Dev nD × {e : Ent // e ∈ ents}) : GSem nD τ sig × ℕ × Fin 2 := (cell ce.1 ce.2.1.1, ce.2.1.2.2, ce.2.1.2.1)
theorem tokOf_injective : Function.Injective tokOf := by
  rintro ⟨c, ⟨⟨k, j, r⟩, he⟩⟩ ⟨c', ⟨⟨k', j', r'⟩, he'⟩⟩ h
  have h1 := cell_injective (a₁ := (c, k)) (a₂ := (c', k')) (congrArg Prod.fst h)
  have h2 : r = r' := congrArg (fun x : GSem nD τ sig × ℕ × Fin 2 => x.2.1) h
  have h3 : j = j' := congrArg (fun x : GSem nD τ sig × ℕ × Fin 2 => x.2.2) h
  cases h1; subst h2; subst h3; rfl

instance : Fintype {e : Ent // e ∈ ents} := Fintype.ofList ents.attach fun e => List.mem_attach _ e

def ringToks : Finset (GSem nD τ sig × ℕ × Fin 2) := Finset.univ.map ⟨tokOf, tokOf_injective⟩

def u₀ : UU := (initOf (Pipeline.cells cfgs cellOf_inj) (Pipeline.launchToks cfgs cellOf_inj), initOf ringCells ringToks)

/-- The right to pay a cell of the device `c`. -/
def tok (c : Dev nD) (e : Ent) : sProp 𝕄 := dutyTok ER (cell c e.1) e.2.2 e.2.1

theorem bigSep_attach (l : List Ent) (hl : l.Nodup) [Fintype {e : Ent // e ∈ l}] (Φ : Ent → sProp 𝕄) :
    bigSep (Finset.univ : Finset {e : Ent // e ∈ l}) (fun e => Φ e.1) = bigSepL l Φ := by
  rw [bigSep_univ_eq_bigSepL l.attach (Finset.ext fun e => by simp) (List.nodup_attach.mpr hl), ← bigSepL_map (fun e : {e : Ent // e ∈ l} => e.1)]
  exact congrArg (fun l => bigSepL l Φ) (List.attach_map_subtype_val l)

theorem bigSep_bigSepL (l : List Ent) (Φ : Dev nD → Ent → sProp 𝕄) :
    bigSep Finset.univ (fun c : Dev nD => bigSepL l (Φ c)) = bigSepL l fun e => bigSep Finset.univ fun c : Dev nD => Φ c e := by
  induction l with
  | nil =>
    show bigSep Finset.univ (fun _ : Dev nD => (iprop(emp) : sProp 𝕄)) = iprop(emp)
    exact bigSep_emp_const _
  | cons e l ih =>
    rw [bigSepL_cons', ← ih, ← bigSep_sep']
    exact bigSep_congr fun c _ => bigSepL_cons' _ _ _

/-- Every right goes to the device that pays. -/
theorem toks_around : (bigSep Finset.univ fun c : Dev nD => bigSepL ents (tok (F := F) c)) = bigSep Finset.univ fun c : Dev nD => bigSepL ents (duty c) := by
  rw [bigSep_bigSepL, bigSep_bigSepL]
  refine congrArg (bigSepL ents) (funext fun e => ?_)
  exact bigSep_univ_equiv (payE e.1 e.2.1) (fun c : Dev nD => (tok c e : sProp 𝕄))

/-! ## The credit of the launch -/

/-- What a device owes when it starts. -/
def O₀ (c : Dev nD) : CellTallies nD τ sig ℕ := owed c pays

theorem cred_one (c : Dev nD) (e : Ent) : (Pipeline.launchCred (fun d => due d e) c : sProp 𝕄) ⊢ crd c e := by
  have h : tallyOn (cell c e.1) (launchCredit (Pipeline.owing fun d => due d e) 0 (cell c e.1))
      = (tallyAt (cell c e.1) e.2.2 (amt e.1) : CellTallies nD τ sig ℕ) := by
    unfold tallyAt
    refine congrArg _ (Finsupp.ext fun u => ?_)
    rw [Pipeline.launchCredit_owing]
    unfold due
    have hi (d : Dev nD) : (tallyAt (cell (payE e.1 e.2.1 d) e.1) e.2.2 (amt e.1) : CellTallies nD τ sig ℕ) (cell c e.1) u
        = if d = (payE e.1 e.2.1).symm c then (if u = e.2.2 then amt e.1 else 0) else 0 := by
      rw [tallyAt_apply]
      by_cases hd : d = (payE e.1 e.2.1).symm c
      · rw [if_pos hd, hd, Equiv.apply_symm_apply]
        simp
      · rw [if_neg hd, if_neg]
        rintro ⟨h1, -⟩
        refine hd ?_
        rw [show c = payE e.1 e.2.1 d from congrArg (fun g : GSem nD τ sig => g.1.1) h1, Equiv.symm_apply_apply]
    rw [Finset.sum_congr rfl fun d _ => hi d, Finset.sum_ite_eq' Finset.univ ((payE e.1 e.2.1).symm c) fun _ => _, if_pos (Finset.mem_univ _),
      Finsupp.single_apply]
    exact if_congr eq_comm rfl rfl
  unfold crd
  rw [← h]
  exact Pipeline.launchCred_elim _ c (csem e.1)

theorem cred_list (c : Dev nD) (l : List Ent) : (Pipeline.launchCred (fun d => owed d l) c : sProp 𝕄) ⊢ bigSepL l (crd c) := by
  induction l with
  | nil =>
    show (_ : sProp 𝕄) ⊢ iprop(emp)
    iintro -; iempintro
  | cons e l ih =>
    rw [show (fun d => owed d (e :: l)) = fun d => owed d l + due d e from rfl, Pipeline.launchCred_add, bigSepL_cons']
    iintro ⟨H, He⟩
    isplitl [He]
    · iapply (cred_one c e); iexact He
    iapply ih; iexact H

theorem creds_of (c : Dev nD) : (Pipeline.launchCred O₀ c : sProp 𝕄) ⊢ iprop(crd c (.bar, 0, 0) ∗ crd c (.bar, 1, 0) ∗ bigSepL (credL steps) (crd c)) := by
  have h := cred_list (F := F) c pays
  rw [perm_eq pays_perm pays_nodup] at h
  unfold creds at h
  rw [bigSepL_cons', bigSepL_cons'] at h
  exact h

/-! ## The semaphores -/

/-- The kernel's own semaphores, numbered. -/
def osem (i : Fin ocks.length) : SemLoc sig := csem (ocks.get i)

theorem ownSemFacts : Pipeline.OwnSemFacts cfg0.spec osem where
  isScoped := by
    have h : ∀ k ∈ ocks, (csem k).isScoped .tc = true := by decide +kernel
    exact fun i => h _ (List.get_mem _ _)
  inj := fun i j h => List.nodup_iff_injective_get.mp ocks_nodup (csem_injective h)
  disj := by
    have h : ∀ k ∈ ocks, ∀ (w : Fin cfg0.W) (s : Fin (cfg0.spec w).nbuf), csem k ≠ .dma ((cfg0.spec w).sem s) := by decide +kernel
    exact fun i => h _ (List.get_mem _ _)

theorem ownSems0_eq (c : Dev nD) : (Pipeline.ownSems0 (Ix := ℕ) (Name := ℕ) (U := UU) (Lvl := ℕ) (Val := Elt F) (τ := τ) osem c : sProp 𝕄)
    = bigSepL ocks (zero c) := by
  rw [Pipeline.ownSems0_eq_of_list c osem (List.finRange ocks.length) (Finset.ext fun i => by simp) (List.nodup_finRange _)]
  show bigSepL (List.finRange ocks.length) (fun i => zero c (ocks.get i)) = _
  rw [← bigSepL_map (fun i => ocks.get i), List.map_get_finRange]

theorem unscopedSems0_eq (c : Dev nD) : (unscopedSems0 c : sProp 𝕄) = zero c .bar := by
  unfold unscopedSems0; rw [bigSep_eq_bigSepL_of_eq [SemLoc.reg semB] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => zero c k : sProp 𝕄) := by
  rw [ownSems0_eq, unscopedSems0_eq, bigSep_cks]
  iintro ⟨H, HB⟩
  isplitl [HB] <;> iassumption

/-- and at the end. -/
theorem zeros_own (c : Dev nD) : iprop((bigSep Finset.univ fun l : Ln => zero (F := F) c (.cr l.1 l.2)) ∗ bigSepL (posL steps) (zero c))
    ⊢ (Pipeline.ownSems0 (Ix := ℕ) (Name := ℕ) (U := UU) (Lvl := ℕ) (Val := Elt F) (τ := τ) osem c : sProp 𝕄) := by
  rw [ownSems0_eq]
  unfold ocks
  rw [bigSepL_append, bigSepL_lanes]

/-! ## The deal -/

section Deal

variable (X : Dev nD → Vec F S4096x512 .f32) (Wt : Dev nD → Vec F S512x8192 .f32)

/-- What the launch makes for a device, -/
def G (c : Dev nD) : sProp 𝕄 :=
  iprop((bigSep Finset.univ fun k : CK => roundState ER (Rd X Wt) (cell c k) 0)
    ∗ (bigSep Finset.univ fun k : CK => iprop(pos0 c k ∗ reached ER (cell c k) 0)) ∗ bigSepL ents (tok c))

/-- what stays with it, -/
def linear (c : Dev nD) : sProp 𝕄 := iprop((bigSep Finset.univ fun k : CK => pos0 (F := F) c k) ∗ bigSepL ents (duty c))
/-- and with the records all devices share. -/
def G' (c : Dev nD) : sProp 𝕄 := iprop(∃ K, records X Wt K ∗ linear c)

theorem fund_ring : BI.own (ER (initOf ringCells ringToks)) ⊢ (|==> bigSep Finset.univ (G X Wt) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => bigSepL ents (tok c) := by
    unfold ringToks; rw [bigSep_map, bigSep_univ_prod]
    exact bigSep_congr fun c _ => bigSep_attach ents ents_nodup (tok c)
  iintro HX
  imod (Rounds.fund ER (Rd X Wt) ringCells ringToks) $$ HX with ⟨Hst, Hr, Hat, Htok⟩
  imodintro
  ihave Hst' := (Entails.of_eq (hX fun g => roundState ER (Rd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G pos0; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun k : CK => iprop(∃ κ : ℕ, cellInv ER (Rd X Wt) κ (cell c k)))
          ∗ (bigSep Finset.univ fun k : CK => iprop(pos0 c k ∗ reached ER (cell c k) 0)) ∗ bigSepL ents (tok c)) := by
  unfold G
  iintro ⟨Hos, Hus, Hst, Hat, Htok⟩
  ihave Hv := (sems0_eq (F := F) c) $$ [Hos Hus]
  · isplitl [Hos] <;> iassumption
  imod (show iprop((bigSep Finset.univ fun k : CK => zero c k) ∗ bigSep Finset.univ fun k : CK => roundState ER (Rd X Wt) (cell c k) 0)
      ⊢ (|={Set.univ}=> bigSep Finset.univ fun k : CK => iprop(∃ κ : ℕ, cellInv ER (Rd X Wt) κ (cell c k)) : sProp 𝕄) from by
        unfold zero
        rw [← bigSep_sep']
        exact (bigSep_mono fun k _ => (Rounds.body_intro ER (Rd X Wt) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem share_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records X Wt K ∗ linear c) ⊢ G' X Wt c := by
  unfold G'
  iintro H
  iexists K
  iexact H

theorem regroup :
    (bigSep Finset.univ fun c : Dev nD => iprop((bigSep Finset.univ fun k : CK => iprop(∃ κ : ℕ, cellInv ER (Rd X Wt) κ (cell c k)))
          ∗ (bigSep Finset.univ fun k : CK => iprop(pos0 c k ∗ reached ER (cell c k) 0)) ∗ bigSepL ents (tok c)) : sProp 𝕄)
      ⊢ bigSep Finset.univ (G' X Wt) := by
  rw [bigSep_sep', bigSep_sep', ← bigSep_univ_prod (fun ck : Dev nD × CK => iprop(∃ κ : ℕ, cellInv ER (Rd X Wt) κ (cell ck.1 ck.2))),
    bigSep_congr (s := Finset.univ) (fun (c : Dev nD) _ => bigSep_sep' Finset.univ (fun k : CK => (pos0 c k : sProp 𝕄)) (fun k => reached ER (cell c k) 0)),
    bigSep_sep', ← bigSep_univ_prod (fun ck : Dev nD × CK => (reached ER (cell ck.1 ck.2) 0 : sProp 𝕄)), toks_around]
  iintro ⟨HI, ⟨Hat, #HR⟩, Htok⟩
  ihave HK := (BI.bigSep_exists_pi Finset.univ (fun (ck : Dev nD × CK) (κ : ℕ) => (cellInv ER (Rd X Wt) κ (cell ck.1 ck.2) : sProp 𝕄))) $$ HI
  icases HK with ⟨%K, #HI⟩
  iapply (share_records (R := records X Wt K) fun c _ => ghost_intro X Wt K c)
  isplitr
  · unfold records; isplitl; · iexact HI
    iexact HR
  · unfold linear
    rw [bigSep_sep']
    isplitl [Hat]; · iexact Hat
    iexact Htok

theorem glob : (bigSep Finset.univ fun c => iprop(Pipeline.ownSems0 (Ix := ℕ) (Name := ℕ) (U := UU) (Lvl := ℕ) (Val := Elt F) (τ := τ) osem c
      ∗ unscopedSems0 c ∗ G X Wt c) : sProp 𝕄) ⊢ |={Set.univ}=> bigSep Finset.univ (G' X Wt) :=
  ((bigSep_mono fun c _ => core_alloc X Wt c).trans (bigSep_fupd _ _)).trans (BI.fupd_mono (regroup X Wt))

/-- What a device starts from, its buffers apart, -/
def start (c : Dev nD) : sProp 𝕄 :=
  iprop((bigSep Finset.univ fun l : Ln => crAt (F := F) c l.1 l.2 0)
    ∗ (duty c (.bar, 0, 0) ∗ duty c (.bar, 1, 0) ∗ crd c (.bar, 0, 0) ∗ crd c (.bar, 1, 0) ∗ pos0 c .bar) ∗ Ghs c steps)

theorem start_of (c : Dev nD) : iprop(linear c ∗ Pipeline.launchCred O₀ c) ⊢ (start c : sProp 𝕄) := by
  unfold linear start ents
  rw [bigSep_cks, bigSepL_cons', bigSepL_cons']
  unfold ocks
  rw [bigSepL_append, bigSepL_lanes]
  iintro ⟨⟨⟨Hb, Hcr, Hpos⟩, Ht0, Ht1, Htok⟩, Hc⟩
  ihave Hc := (creds_of (F := F) c) $$ Hc
  icases Hc with ⟨Hc0, Hc1, Hcs⟩
  isplitl [Hcr]; · iexact Hcr
  isplitl [Hb Ht0 Ht1 Hc0 Hc1]
  · isplitl [Ht0]; · iexact Ht0
    isplitl [Ht1]; · iexact Ht1
    isplitl [Hc0]; · iexact Hc0
    isplitl [Hc1]; · iexact Hc1
    iexact Hb
  iapply (ghs_of (F := F) c steps)
  isplitl [Htok]; · iexact Htok
  isplitl [Hcs]; · iexact Hcs
  iexact Hpos

/-- with them. -/
theorem body0_of (c : Dev nD) (f : Vec F S4096x8192 .f32) :
    iprop(start c ∗ ((c : Thread nD τ).loc main_v1 ↦{fullShare} f) ∗ (∃ f, (c : Thread nD τ).loc cc0_scratch0 ↦{fullShare} f)
        ∗ (∃ f, (c : Thread nD τ).loc cc0_scratch1 ↦{fullShare} f)) ⊢ (body0 c : sProp 𝕄) := by
  unfold start body0
  iintro ⟨⟨Hcr, Hb, Hg⟩, Ho, Ha, Hr⟩
  isplitl [Hcr Ho Ha Hr]
  · iapply (mem_start c f)
    isplitl [Ho]; · iexact Ho
    isplitl [Ha]; · iexact Ha
    isplitl [Hr]; · iexact Hr
    iexact Hcr
  isplitl [Hb]; · iexact Hb
  iexact Hg

/-- What a device ends with. -/
theorem body1_elim (c : Dev nD) : body1 X Wt c
    ⊢ iprop((unscopedSems0 c ∗ ((c : Thread nD τ).loc main_v1 ↦{fullShare} outV X Wt))
      ∗ Pipeline.ownSems0 (Ix := ℕ) (Name := ℕ) (U := UU) (Lvl := ℕ) (Val := Elt F) (τ := τ) osem c
      ∗ ((∃ f, (c : Thread nD τ).loc cc0_scratch0 ↦{fullShare} f) ∗ (∃ f, (c : Thread nD τ).loc cc0_scratch1 ↦{fullShare} f))) := by
  rw [unscopedSems0_eq]
  unfold body1
  iintro ⟨He, Hb, Hz⟩
  ihave H := (mem_end X Wt c) $$ He
  icases H with ⟨Ho, Ha, Hr, Hcr⟩
  isplitl [Hb Ho]
  · isplitl [Hb]; · iexact Hb
    iexact Ho
  isplitl [Hcr Hz]
  · iapply (zeros_own (F := F) c)
    isplitl [Hcr]; · iexact Hcr
    iexact Hz
  isplitl [Ha]; · iexact Ha
  iexact Hr

end Deal

end Cert.RingProof

end
-- ==== Proof.Launch.lean ====
/-
# The run of the whole program

The launch hands every device its two blocks, its semaphores and its part of the ring's record; the body's run gives the
result array back.
-/
module

public import proofs.«01_k».proof.Proof.Deal
public import proofs.«01_k».proof.Proof.Gen.KernelIdeal.Points
public import Idealize.ShloMosaic.Lib.Pipeline.CollectiveSegs
public import Idealize.ShloMosaic.Lib.Quiescent

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory the run starts from. -/
abbrev s₀ : MemSt nD τ sig (Elt F) := ⟨m, fun _ => 0, ρ⟩

/-- The blocks the devices hold. -/
abbrev Xs (c : Dev nD) : Vec F S4096x512 .f32 := m ((c : Thread nD τ).loc main_arg0)
abbrev Ws (c : Dev nD) : Vec F S512x8192 .f32 := m ((c : Thread nD τ).loc main_arg1)

theorem read_arg0 (f : (main_arg0 : Ref sig .tc).ty.Contents (Elt F)) : (win0_0.blk (0 : Fin 1)).view.read (Elt F) f = f :=
  Memref.read_access_unit_zero (Elt F) main_arg0 (funext fun a => by fin_cases a <;> exact Nat.zero_mul _) (fun a => by fin_cases a <;> decide) f
theorem read_arg1 (f : (main_arg1 : Ref sig .tc).ty.Contents (Elt F)) : (win0_1.blk (0 : Fin 1)).view.read (Elt F) f = f :=
  Memref.read_access_unit_zero (Elt F) main_arg1 (funext fun a => by fin_cases a <;> exact Nat.zero_mul _) (fun a => by fin_cases a <;> decide) f

/-! ## The one point -/

def Φ₀ (c : Dev nD) : sProp 𝕄 := iprop((∃ K, records (Xs m) (Ws m) K) ∗ levAts L lv ∗ body0 c)
def Φ₁ (c : Dev nD) : sProp 𝕄 := body1 (Xs m) (Ws m) c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => Xs m c
    | ⟨1, _⟩ => Ws m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fin_pt (t : Fin cfg0.N) : t = t0_0 := fin_N0 t

theorem bigSep_W (Φ : Fin cfg0.W → sProp 𝕄) : bigSep Finset.univ Φ = iprop(Φ (0 : Fin 2) ∗ Φ (1 : Fin 2)) := bigSep_W0 Φ

/-- A whole buffer at `f`. -/
def held (c : Dev nD) (b : Ref sig .tc) (f : b.ty.Contents (Elt F)) : sProp 𝕄 :=
  iprop(∃ f' : Buf (Elt F) (((c : Dev nD) : Thread nD τ).loc b), ⌜f' = f⌝ ∗ (((c : Thread nD τ).loc b) ↦{fullShare} f'))

theorem owns_held (c : Dev nD) (b : Ref sig .tc) (f : b.ty.Contents (Elt F)) :
    (owns (Ix := ℕ) (Name := ℕ) (U := UU) (Lvl := ℕ) (c : Thread nD τ) (Memref.whole b) fullShare f : sProp 𝕄) = held c b f := by
  unfold owns held; simp only [Memref.view_whole, View.read_whole, View.set_whole]

def before' (c : Dev nD) : sProp 𝕄 :=
  iprop(Φ₀ m c ∗ (dats m ρ 0 c).owesAt 0 (t0_0 : Fin cfg0.N).castSucc
    ∗ (∃ d, held c cc0_stg0_0 ((dats m ρ 0 c).before (0 : Fin 2) t0_0 d))
    ∗ (∃ d, held c cc0_stg1_0 ((dats m ρ 0 c).before (1 : Fin 2) t0_0 d)))

def after' (c : Dev nD) : sProp 𝕄 :=
  iprop(Φ₁ m c ∗ (dats m ρ 0 c).owesAt 0 (t0_0 : Fin cfg0.N).succ ∗ held c cc0_stg0_0 (Xs m c) ∗ held c cc0_stg1_0 (Ws m c))

theorem point_ok (c : Dev nD) : before' m ρ c ⊢ wpP c (bodyK c) (fun _ => after' m ρ c) := by
  unfold before' Φ₀ held
  iintro ⟨⟨⟨%K, HR⟩, Hlev, Hb⟩, Ho, ⟨%d0, %g0, %hg0, Hx⟩, ⟨%d1, %g1, %hg1, Hw⟩⟩
  have hx : g0 = Xs m c := by rw [hg0]; unfold Dat.before; rw [if_pos (fetch0_0 t0_0)]; exact read_arg0 (m ((c : Thread nD τ).loc main_arg0))
  have hw : g1 = Ws m c := by rw [hg1]; unfold Dat.before; rw [if_pos (fetch0_1 t0_0)]; exact read_arg1 (m ((c : Thread nD τ).loc main_arg1))
  subst hx hw
  unfold Dat.owesAt Pipeline.owesWithin
  icases Ho with ⟨%W, %hW, HO⟩
  iapply (body_ok (Xs m) (Ws m) K c (fun _ => after' m ρ c)) $$ [HR Hlev Hb HO Hx Hw]
  · isplitl [HR]; · iexact HR
    isplitl [Hlev]; · iexact Hlev
    isplitl [Hx Hw]
    · unfold stg
      isplitl [Hx] <;> iassumption
    isplitl [Hb]; · iexact Hb
    unfold ow
    iexists W
    iapply (show (owes (c : Thread nD τ) ((dats m ρ 0 c).owed (t0_0 : Fin cfg0.N).castSucc) W : sProp 𝕄) ⊢ owes (c : Thread nD τ) (owed c pays) W from .rfl)
    iexact HO
  unfold stg ow after' Dat.owesAt Pipeline.owesWithin held
  iintro ⟨⟨Hx, Hw⟩, Hb, ⟨%W', HO⟩⟩
  isplitl [Hb]; · unfold Φ₁; iexact Hb
  isplitl [HO]
  · iexists W'
    isplitr; · ipureintro; exact fun _ _ => Or.inl trivial
    iapply (show (owes (c : Thread nD τ) (owed c []) W' : sProp 𝕄) ⊢ owes (c : Thread nD τ) ((dats m ρ 0 c).owed (t0_0 : Fin cfg0.N).succ) W' from .rfl)
    iexact HO
  isplitl [Hx]
  · iexists _; isplitr; · (ipureintro; rfl)
    iexact Hx
  iexists _; isplitr; · (ipureintro; rfl)
  iexact Hw

set_option maxRecDepth 100000 in
theorem point_wp (c : Dev nD) : before' m ρ c ⊢ wp frame (wpE (defs₀ (F := F)) 𝒱₀ (c : Thread nD τ) none) Set.univ
    (cc0_body (F := F) xM (Memref.isWhole_whole _) wM (Memref.isWhole_whole _) oM (Memref.isWhole_whole _)
    aM (Memref.isWhole_whole _) rM (Memref.isWhole_whole _) cc0_scratch2 cc0_scratch3 cc0_scratch4 cc0_scratch5 cc0_scratch6 cc0_scratch7)
    (fun _ => after' m ρ c) := by
  rw [body_eq, wp_deviceId]
  exact point_ok m ρ c

set_option maxRecDepth 100000 in
theorem body_obligation (c : Dev nD) : BodyObligation (dats (F := F) m ρ 0 c) (defs₀ (F := F)) 𝒱₀ 0 Set.univ := fun t => by
  rw [fin_pt t]
  rw [bigSep_W, bigSep_W]
  simp only [owns_held]
  exact point_wp m ρ c

/-! ## The launch -/

theorem share_eq (c : Dev nD) (w : Fin cfg0.W) : (dats m ρ 0 c).share w = fullShare := by unfold Dat.share; split <;> rfl

theorem lv_stage (c : Dev nD) (w : Fin cfg0.W) (s : Fin (cfg0.win w).nbuf) : lv ((c : Thread nD τ), .dma ((cfg0.win w).sem s)) 0 = 0 := by
  fin_cases w <;> fin_cases s <;> rfl

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) pays (by rw [lv_stage]; exact after_stage)
    · show (levAts L lv : sProp 𝕄) ⊢ MayWait (c : Thread nD τ) _ 0 0
      rw [MayWait_zero]
      iintro -
      iempintro

/-- What a device has at the launch, the buffers of the kernel's scope apart. -/
def atLaunch (c : Dev nD) : sProp 𝕄 :=
  iprop((∃ K, records (Xs m) (Ws m) K) ∗ levAts L lv ∗ start c ∗ ((c : Thread nD τ).loc main_v1 ↦{fullShare} m ((c : Thread nD τ).loc main_v1)))
/-- and at the end. -/
def atEnd (c : Dev nD) : sProp 𝕄 := iprop(unscopedSems0 c ∗ ((c : Thread nD τ).loc main_v1 ↦{fullShare} outV (Xs m) (Ws m)))

theorem launch_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xs m) (Ws m) c)
      ⊢ |={Set.univ}=> iprop(atLaunch m c ∗ emp) := by
  rw [Pipeline.unscopedRestP_none, unscopedRest0_eq]
  unfold G' atLaunch
  iintro ⟨Hv, Hlev, Hcr, -, ⟨%K, HR, HG⟩⟩
  ihave Hs := (start_of (F := F) c) $$ [HG Hcr]
  · isplitl [HG] <;> iassumption
  imodintro
  isplitl
  · isplitl [HR]; · iexists K; iexact HR
    isplitl [Hlev]; · iexact Hlev
    isplitl [Hs] <;> iassumption
  · iempintro

theorem enter (c : Dev nD) :
    iprop(atLaunch m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ atLaunch
  iintro ⟨⟨HR, Hlev, Hs, Hv⟩, -, Ha, Hr⟩
  isplitl [HR]; · iexact HR
  isplitl [Hlev]; · iexact Hlev
  iapply (body0_of c (m ((c : Thread nD τ).loc main_v1)))
  isplitl [Hs]; · iexact Hs
  isplitl [Hv]; · iexact Hv
  isplitl [Ha] <;> iassumption

theorem leave (c : Dev nD) :
    (dats m ρ 0 c).Φ (Fin.last cfg0.N) ⊢ iprop(atEnd m c ∗ Pipeline.ownSems0 osem c ∗ Pipeline.scopedRest cfg0.spec c) := by
  rw [show (dats m ρ 0 c).Φ (Fin.last cfg0.N) = Φ₁ m c from rfl, scopedRest0_eq]
  exact body1_elim (Xs m) (Ws m) c

/-- What is read off the final memory of device `c`. -/
def ends (c : Dev nD) (s : MemSt nD τ sig (Elt F)) : Prop :=
  (∀ sm : SemLoc sig, sm.isScoped .tc = false → s.sem ((c.tc : Thread nD τ), sm) = 0) ∧ s.mem ((c : Thread nD τ).loc main_v1) = outV (Xs m) (Ws m)

theorem read_end (c : Dev nD) (s' : Phys nD τ sig (Elt F)) :
    iprop(atEnd m c ∗ emp ∗ SI s') ⊢ |={Set.univ}=> (iprop(⌜ends m c s'.mem⌝ ∗ SI s') : sProp 𝕄) := by
  unfold atEnd
  iintro ⟨⟨Hu, Hv⟩, -, HSI⟩
  imod (Pipeline.unscopedSems0_read (X := unscopedSems0 c) (c := c) fupd_intro s') $$ [Hu HSI] with ⟨%h, HSI⟩
  · isplitl [Hu] <;> iassumption
  ihave ⟨%h', HSI⟩ := (pointsTo_read_all ({()} : Finset Unit) (fun _ => (c : Thread nD τ).loc main_v1) (fun _ => outV (Xs m) (Ws m)) s') $$ [Hv HSI]
  · rw [bigSep_singleton]
    isplitl [Hv] <;> iassumption
  imodintro
  isplitr; · ipureintro; exact ⟨h, h' () (Finset.mem_singleton_self _)⟩
  iexact HSI

/-- The result of the run: the blocks as they were, and the result array, on every device, of the blocks of all. -/
def runs (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1) = outV (Xs m) (Ws m)

set_option maxRecDepth 100000 in
theorem run_main : θ_run defs (onTc (τ := τ) (main (F := F))) (s₀ m ρ) (fun r => runs m r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xs m) (Ws m)) (G' := G' (Xs m) (Ws m)) (u₀ := u₀)
    (hu₀ := by
      unfold u₀
      iintro Hu
      ihave H := (ownU_pair _ _) $$ Hu
      icases H with ⟨HP, HX⟩
      imod (fund_ring (Xs m) (Ws m)) $$ HX with HG
      imodintro
      isplitl [HP] <;> iassumption)
    (hglob := glob (Xs m) (Ws m))
    (hA := fun _ _ => rfl) (hpf := fun _ k => k.elim0)
    (X := atLaunch m) (Y := atEnd m) (Z := fun _ => iprop(emp))
    (hX := launch_intro m ρ) (hin := enter m ρ) (hout := leave m ρ)
    (QY := ends m) (hY := read_end m)
    (hQ := fun s h hs => ⟨fun c =>
      ⟨((h c).1 (0 : Fin 2)).trans ((dats (F := F) m ρ 0 c).arrAt_in (0 : Fin 2) rfl _),
        ((h c).1 (1 : Fin 2)).trans ((dats (F := F) m ρ 0 c).arrAt_in (1 : Fin 2) rfl _), (h c).2.2.2⟩,
      sem_eq_zero hs fun c => (h c).2.2.1⟩)

end Cert.RingProof

end
-- ==== Proof.Value.lean ====
/-
# The value of the result

At the ideal numbers every element of the result is one sum: over the devices, and within a device over the columns of
`x` it holds, which is the matrix product's own sum cut in eight.
-/
module

public import proofs.«01_k».proof.Proof.Arrays
public import Idealize.ShloMosaic.Lib.MatmulPlain
public import Idealize.ShloMosaic.Lib.StackMember
public import Idealize.ShloMosaic.Lib.Layout

@[expose] public section

noncomputable section

namespace Cert.RingProof

open Cert.KernelIdeal Cert.KernelIdeal.Gen
open Idealize.ShloMosaic Idealize.ShloMosaic.TcCoe Idealize.ShloMosaic.ValueIdx
open scoped BigOperators

/-! ## The sum over the ring -/

section Sum

variable (X : Dev nD → Vec Ideal S4096x512 .f32) (Wt : Dev nD → Vec Ideal S512x8192 .f32) (d : Fin 2) (g : Fin 4)

theorem accV_sum (s : ℕ) : ∀ (c : Dev nD) (j : S1024x512.Idx),
    accV X Wt d g s c j = ∑ u ∈ Finset.range (s + 1), (prodV X Wt d g (back d u c) (back d s c) j : EReal) := by
  induction s with
  | zero => intro c j; rw [Finset.sum_range_one]; rfl
  | succ s ih =>
    intro c j
    rw [Finset.sum_range_succ', back_succ]
    show (accV X Wt d g s (ups d c) j : EReal) + prodV X Wt d g c (back d (s + 1) c) j = _
    rw [ih (ups d c) j, back_succ]
    simp only [back_succ]
    rfl

theorem back_seven (c : Dev nD) : back d 7 c = tgt d c := by revert d c; decide +kernel

theorem finV_sum (c : Dev nD) (j : S1024x512.Idx) :
    finV X Wt d g c j = ∑ e : Dev nD, (prodV X Wt d g e (tgt d c) j : EReal) := by
  unfold finV
  rw [accV_sum, univ_back c d, List.sum_toFinset _ (nodup_back c d), List.map_map, back_seven]
  rw [Finset.sum_range]
  simp only [Fin.sum_univ_succ, List.map_cons, List.map_nil, List.sum_cons, List.sum_nil]
  rfl

end Sum

/-! ## One device's share -/

variable (A : Vec Ideal ⟨2, ![4096, 4096]⟩ .f32) (B : Vec Ideal S4096x8192 .f32)

/-- The blocks a device holds. -/
abbrev aBlk (e : Dev nD) : Vec Ideal S4096x512 .f32 := Layout.block ⟨2, ![4096, 512]⟩ ⟨2, ![4096, 4096]⟩ 1 8 e A
abbrev bBlk (e : Dev nD) : Vec Ideal S512x8192 .f32 := Layout.block ⟨2, ![512, 8192]⟩ ⟨2, ![4096, 8192]⟩ 0 8 e B

/-- A term of the matrix product's sum. -/
def term (r : Fin 4096) (l : Fin 8192) (k : Fin 4096) : EReal := A (ix2 r k) * B (ix2 k l)

theorem dotV_at (x : Vec Ideal S1024x512 .f32) (w : Vec Ideal S512x512 .f32) (r : Fin 1024) (l : Fin 512) :
    dotV x w (ix2 r l) = ∑ k : Fin 512, (x (ix2 r k) * w (ix2 k l) : EReal) := by
  unfold dotV
  rw [shapeCast_self, shapeCast_self]
  refine (Ideal.matmul_plain_apply (M := 1024) (K := 512) (N := 512) (φ₁ := .f32) (φ₂ := .f32) none x w (constant S1024x512 .f32 0) r l).trans ?_
  show Ideal.ofBits .f32 0x00000000#32 + _ = _
  rw [Ideal.ofBits_zero_f32, zero_add]

theorem prod_at (d : Fin 2) (g : Fin 4) (e q : Dev nD) (r : Fin 1024) (l : Fin 512) (R : Fin 4096) (C : Fin 8192)
    (hR : R.val = 1024 * g.val + r.val) (hC : C.val = 1024 * q.val + 512 * d.val + l.val) :
    prodV (aBlk A) (bBlk B) d g e q (ix2 r l) = ∑ k : Fin 512, term A B R C (finProdFinEquiv (e, k)) := by
  unfold prodV
  rw [dotV_at]
  refine Finset.sum_congr rfl fun k _ => ?_
  unfold term
  congr 1
  · refine congrArg A (funext fun a => Fin.ext ?_)
    match a with
    | ⟨0, _⟩ => show 1024 * g.val + 1 * r.val = R.val; omega
    | ⟨1, _⟩ => show e.val * 512 + (0 + 1 * k.val) = k.val + 512 * e.val; omega
  · refine congrArg B (funext fun a => Fin.ext ?_)
    match a with
    | ⟨0, _⟩ => show e.val * 512 + (0 + 1 * k.val) = k.val + 512 * e.val; omega
    | ⟨1, _⟩ => show 1024 * q.val + 512 * d.val + 1 * l.val = C.val; omega

theorem sum_terms (R : Fin 4096) (C : Fin 8192) :
    (∑ e : Dev nD, ∑ k : Fin 512, term A B R C (finProdFinEquiv (e, k))) = ∑ k : Fin 4096, term A B R C k := by
  rw [← Fintype.sum_prod_type' (f := fun (e : Dev nD) (k : Fin 512) => term A B R C (finProdFinEquiv (e, k)))]
  exact Equiv.sum_comp (finProdFinEquiv (m := 8) (n := 512)) (term A B R C)

theorem out_at (i : S4096x8192.Idx) (R : Fin 4096) (C : Fin 8192) (hR : R.val = (i 0).val) (hC : C.val = (i 1).val) :
    outV (aBlk A) (bBlk B) i = ∑ k : Fin 4096, term A B R C k := by
  have h0 : (i 0).val < 4096 := (i 0).isLt
  have h1 : (i 1).val < 8192 := (i 1).isLt
  rw [← sum_terms]
  unfold outV
  refine (finV_sum _ _ _ _ _ _).trans (Finset.sum_congr rfl fun e _ => ?_)
  have hj : inBk i = ix2 (⟨(i 0).val % 1024, by omega⟩ : Fin 1024) (⟨(i 1).val % 512, by omega⟩ : Fin 512) := by
    funext a
    match a with
    | ⟨0, _⟩ => rfl
    | ⟨1, _⟩ => rfl
  rw [hj]
  unfold bkOf
  dsimp only
  rw [tgt_ups]
  refine prod_at A B _ _ e _ _ _ R C ?_ ?_
  · dsimp only; omega
  · dsimp only; omega

theorem out_eq : outV (aBlk A) (bBlk B) = Host.dotGeneral (F := Ideal) (φ₁ := .f32) (φ₂ := .f32) (DotDims.plain 4096 4096 8192) none A B := by
  funext i
  refine (out_at A B i (i 0) (i 1) rfl rfl).trans ?_
  refine Eq.trans ?_ (congrArg _ (eq_ix2 i)).symm
  exact (StackMember.dotGeneral_plain_apply (φ₁ := .f32) (φ₂ := .f32) none A B (i 0) (i 1)).symm

end Cert.RingProof

end
-- ==== Proof.lean ====
/-
# The claims

The kernel's run, once at the machine's numbers and once at the ideal ones; the plain matrix product; and that on every
device the kernel's result is that product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Launch
public import proofs.«01_k».proof.Proof.Value

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => ⟨(h.1 c).1, (h.1 c).2.1⟩, h.2⟩) (Cert.RingProof.run_main m ρ)

set_option maxRecDepth 100000 in
theorem frame_kernel : Cert.quiescent_Kernel := fun m ρ _ => by
  have h := (θ_run Cert.KernelIdeal.defs _ _).mono
    (fun r (h : Cert.RingProof.runs m r ∧ r.2.sem = fun _ => 0) =>
      (⟨fun c => ⟨(h.1 c).1, (h.1 c).2.1⟩, h.2⟩ : (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0))
    (Cert.RingProof.run_main (F := Bits) m ρ)
  refine Eq.mp ?_ h
  sl_kernel_rfl

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem same_result : Cert.algebraic_KernelIdeal_ReferenceIdeal := fun m g m' g' _ hb => by
  have hX : Cert.RingProof.Xs m = Cert.RingProof.aBlk (m' (((0 : Dev Cert.ReferenceIdeal.nD).tc : Thread Cert.ReferenceIdeal.nD Cert.ReferenceIdeal.τ).loc Cert.ReferenceIdeal.main_arg0)) :=
    funext fun c => (hb c).1
  have hW : Cert.RingProof.Ws m = Cert.RingProof.bBlk (m' (((0 : Dev Cert.ReferenceIdeal.nD).tc : Thread Cert.ReferenceIdeal.nD Cert.ReferenceIdeal.τ).loc Cert.ReferenceIdeal.main_arg1)) :=
    funext fun c => (hb c).2
  refine ⟨_, (θ_run Cert.KernelIdeal.defs _ _).mono (fun r h c => ?_) (Cert.RingProof.run_main m g),
    (θ_run Cert.ReferenceIdeal.defs _ _).mono (fun r h => h 0) (Cert.ReferenceIdeal.Value.run m' g')⟩
  refine ⟨(h.1 c).2.2.trans ?_, (h.1 c).1, (h.1 c).2.1⟩
  rw [hX, hW]
  exact Cert.RingProof.out_eq _ _

theorem claim : Cert.Claim := ⟨Cert.Kernel.Gen.facts, Cert.KernelIdeal.Gen.facts, Cert.ReferenceIdeal.Gen.facts, by
  exact ⟨frame_kernel, frame_ideal, frame_reference, trivial, same_result⟩⟩

end Cert.Proof

end
